-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S100000 : Shape := ⟨1, ![100000]⟩
abbrev S50x2000x1 : Shape := ⟨3, ![50, 2000, 1]⟩
abbrev S1x128 : Shape := ⟨2, ![1, 128]⟩
abbrev S128x256 : Shape := ⟨2, ![128, 256]⟩
abbrev S2000x128 : Shape := ⟨2, ![2000, 128]⟩
abbrev S1x2000x1 : Shape := ⟨3, ![1, 2000, 1]⟩
abbrev S1x256 : Shape := ⟨2, ![1, 256]⟩
abbrev S2000x1 : Shape := ⟨2, ![2000, 1]⟩
abbrev S2000x256 : Shape := ⟨2, ![2000, 256]⟩
abbrev S256 : Shape := ⟨1, ![256]⟩
abbrev S2000 : Shape := ⟨1, ![2000]⟩
abbrev S256x128 : Shape := ⟨2, ![256, 128]⟩

abbrev nBuf : Space → Nat
  | .hbm => 10
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S100000, .i32⟩
  | .hbm, ⟨5, _⟩ => ⟨S50x2000x1, .i32⟩
  | .hbm, ⟨6, _⟩ => ⟨S1x128, .f32⟩
  | .hbm, ⟨7, _⟩ => ⟨S1x128, .f32⟩
  | .hbm, ⟨8, _⟩ => ⟨S128x256, .f32⟩
  | .hbm, ⟨9, _⟩ => ⟨S256x128, .f32⟩
  | .local _ .vmem, ⟨0, _⟩ => ⟨S2000x128, .f32⟩
  | .local _ .vmem, ⟨1, _⟩ => ⟨S2000x128, .f32⟩
  | .local _ .vmem, ⟨2, _⟩ => ⟨S1x2000x1, .i32⟩
  | .local _ .vmem, ⟨3, _⟩ => ⟨S1x2000x1, .i32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S128x256, .f32⟩
  | .local _ .vmem, ⟨8, _⟩ => ⟨S1x256, .f32⟩
  | .local _ .vmem, ⟨9, _⟩ => ⟨S1x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S100000 : Shape := ⟨1, ![100000]⟩
abbrev S1x128 : Shape := ⟨2, ![1, 128]⟩
abbrev S100000x1 : Shape := ⟨2, ![100000, 1]⟩
abbrev S256 : Shape := ⟨1, ![256]⟩
abbrev S1x256 : Shape := ⟨2, ![1, 256]⟩
abbrev S100000x256 : Shape := ⟨2, ![100000, 256]⟩
abbrev S_ : Shape := ⟨0, ![]⟩
abbrev S256x1 : Shape := ⟨2, ![256, 1]⟩
abbrev S256x128 : Shape := ⟨2, ![256, 128]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S100000, .i32⟩
  | .hbm, ⟨5, _⟩ => ⟨S100000x128, .f32⟩
  | .hbm, ⟨6, _⟩ => ⟨S1x128, .f32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S100000x1, .f32⟩
  | .hbm, ⟨11, _⟩ => ⟨S100000x1, .i32⟩
  | .hbm, ⟨12, _⟩ => ⟨S256, .i32⟩
  | .hbm, ⟨13, _⟩ => ⟨S1x256, .i32⟩
  | .hbm, ⟨14, _⟩ => ⟨S100000x256, .i32⟩
  | .hbm, ⟨15, _⟩ => ⟨S100000x256, .i32⟩
  | .hbm, ⟨16, _⟩ => ⟨S100000x256, .i1⟩
  | .hbm, ⟨17, _⟩ => ⟨S_, .f32⟩
  | .hbm, ⟨18, _⟩ => ⟨S_, .f32⟩
  | .hbm, ⟨19, _⟩ => ⟨S100000x256, .f32⟩
  | .hbm, ⟨20, _⟩ => ⟨S100000x256, .f32⟩
  | .hbm, ⟨21, _⟩ => ⟨S100000x256, .f32⟩
  | .hbm, ⟨22, _⟩ => ⟨S_, .f32⟩
  | .hbm, ⟨23, _⟩ => ⟨S256, .f32⟩
  | .hbm, ⟨24, _⟩ => ⟨S256x1, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .i1⟩
  | .hbm, ⟨29, _⟩ => ⟨S_, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S_, .i32⟩
  | .hbm, ⟨34, _⟩ => ⟨S100000, .i32⟩
  | .hbm, ⟨35, _⟩ => ⟨S100000, .i1⟩
  | .hbm, ⟨36, _⟩ => ⟨S_, .i32⟩
  | .hbm, ⟨37, _⟩ => ⟨S100000, .i32⟩
  | .hbm, ⟨38, _⟩ => ⟨S100000, .i32⟩
  | .hbm, ⟨39, _⟩ => ⟨S100000, .i32⟩
  | .hbm, ⟨40, _⟩ => ⟨S100000x1, .i32⟩
  | .hbm, ⟨41, _⟩ => ⟨S100000x1, .f32⟩
  | .hbm, ⟨42, _⟩ => ⟨S100000x1, .f32⟩
  | .hbm, ⟨43, _⟩ => ⟨S100000x1, .f32⟩
  | .hbm, ⟨44, _⟩ => ⟨S_, .f32⟩
  | .hbm, ⟨45, _⟩ => ⟨S256x1, .f32⟩
  | .hbm, ⟨46, _⟩ => ⟨S100000x1, .i32⟩
  | .hbm, ⟨47, _⟩ => ⟨S256x1, .f32⟩
  | .hbm, ⟨48, _⟩ => ⟨S_, .i32⟩
  | .hbm, ⟨49, _⟩ => ⟨S100000, .i32⟩
  | .hbm, ⟨50, _⟩ => ⟨S100000, .i1⟩
  | .hbm, ⟨51, _⟩ => ⟨S_, .i32⟩
  | .hbm, ⟨52, _⟩ => ⟨S100000, .i32⟩
  | .hbm, ⟨53, _⟩ => ⟨S100000, .i32⟩
  | .hbm, ⟨54, _⟩ => ⟨S100000, .i32⟩
  | .hbm, ⟨55, _⟩ => ⟨S100000x1, .i32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x1, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S256x128, .f32⟩
  | .hbm, ⟨67, _⟩ => ⟨S100000x1, .i32⟩
  | .hbm, ⟨68, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Proof.Soft.lean ====
/- Softmax weights on the extended reals. A segment's weights are exponentials of the scores less a running maximum;
   when the maximum grows from `M` to `M'`, one factor `exp (M - M')` carries the old exponentials to the new. The last
   theorem says that dividing the accumulated numerators by the accumulated denominator gives what dividing every
   exponential first, at the maximum of all the scores, gives. -/
module

public import Idealize.ShloMosaic.PureOps.Ideal
public import Idealize.ShloMosaic.PureOps.Ideal.Laws

@[expose] public section

noncomputable section

namespace Cert.Soft

open Idealize.ShloMosaic

/-- The exponential of a score less the maximum, and zero where the maximum is minus infinity. -/
def E (t M : EReal) : EReal := if M = ⊥ then 0 else Ideal.exp (t - M)

/-- An exponential is not negative. -/
theorem exp_nonneg (t : EReal) : 0 ≤ Ideal.exp t := by
  induction t using EReal.rec with
  | bot => exact le_refl _
  | top => exact le_top
  | coe r => rw [Ideal.exp_coe]; exact EReal.coe_nonneg.2 (Real.exp_pos r).le

/-- An exponential under a maximum is not negative. -/
theorem E_nonneg (t M : EReal) : 0 ≤ E t M := by
  unfold E; split
  · exact le_refl _
  · exact exp_nonneg _

/-- Under the maximum minus infinity it is zero. -/
theorem E_bot_right (t : EReal) : E t ⊥ = 0 := if_pos rfl

/-- Under the maximum infinity it is zero. -/
theorem E_top_right (t : EReal) : E t ⊤ = 0 := by
  rw [E, if_neg (by decide), EReal.sub_top, Ideal.exp_bot]

/-- Under a finite maximum it is the exponential of the difference. -/
theorem E_coe_right (t : EReal) (r : ℝ) : E t r = Ideal.exp (t - r) := if_neg (EReal.coe_ne_bot r)

/-- Of minus infinity it is zero. -/
theorem E_bot_left (M : EReal) : E ⊥ M = 0 := by
  unfold E; split
  · rfl
  · rw [EReal.bot_sub, Ideal.exp_bot]

/-- The rescaling factor is finite when the maximum does not shrink. -/
theorem E_ne_top {M M' : EReal} (h : M ≤ M') : E M M' ≠ ⊤ := by
  induction M' using EReal.rec with
  | bot => rw [E_bot_right]; exact EReal.zero_ne_top
  | top => rw [E_top_right]; exact EReal.zero_ne_top
  | coe r' =>
    rw [E_coe_right]
    induction M using EReal.rec with
    | bot => rw [EReal.bot_sub, Ideal.exp_bot]; exact EReal.zero_ne_top
    | top => exact absurd (top_le_iff.1 h) (EReal.coe_ne_top r')
    | coe r => rw [← EReal.coe_sub, Ideal.exp_coe]; exact EReal.coe_ne_top _

/-- The rescaling: an exponential at the old maximum, times the factor, is the exponential at the new maximum. -/
theorem E_mul {t M M' : EReal} (h : t ≤ M) (h' : M ≤ M') : E t M * E M M' = E t M' := by
  induction M' using EReal.rec with
  | bot => rw [E_bot_right, E_bot_right, mul_zero]
  | top => rw [E_top_right, E_top_right, mul_zero]
  | coe r' =>
    induction M using EReal.rec with
    | bot => rw [le_bot_iff.1 h, E_bot_right, zero_mul, E_bot_left]
    | top => exact absurd (top_le_iff.1 h') (EReal.coe_ne_top r')
    | coe r =>
      induction t using EReal.rec with
      | bot => rw [E_bot_left, E_bot_left, zero_mul]
      | top => exact absurd (top_le_iff.1 h) (EReal.coe_ne_top r)
      | coe q =>
        rw [E_coe_right, E_coe_right, E_coe_right, ← EReal.coe_sub, ← EReal.coe_sub, ← EReal.coe_sub,
          Ideal.exp_coe, Ideal.exp_coe, Ideal.exp_coe, ← EReal.coe_mul, ← Real.exp_add]
        congr 2; ring

/-- A finite nonnegative factor distributes over a finite sum of extended reals. -/
theorem sum_mul {ι : Type} (S : Finset ι) (f : ι → EReal) {k : EReal} (h0 : 0 ≤ k) (ht : k ≠ ⊤) :
    (∑ i ∈ S, f i) * k = ∑ i ∈ S, f i * k := by
  classical
  induction S using Finset.induction_on with
  | empty => simp
  | insert a S ha ih =>
    rw [Finset.sum_insert ha, Finset.sum_insert ha, EReal.right_distrib_of_nonneg_of_ne_top h0 ht, ih]

/-- The greatest of the first `K` scores. -/
def M (t : ℕ → EReal) (K : ℕ) : EReal := (Finset.range K).sup t

/-- The maximum of no score is minus infinity. -/
theorem M_zero (t : ℕ → EReal) : M t 0 = ⊥ := rfl

/-- A score is at most the maximum. -/
theorem le_M (t : ℕ → EReal) {K n : ℕ} (h : n < K) : t n ≤ M t K := Finset.le_sup (Finset.mem_range.2 h)

/-- The maximum of the first `K + B` scores is that of the first `K` against that of the next `B`. -/
theorem M_add (t : ℕ → EReal) (K B : ℕ) :
    M t (K + B) = max (M t K) ((Finset.univ : Finset (Fin B)).fold max ⊥ fun r => t (K + r.val)) := by
  have e : ((Finset.univ : Finset (Fin B)).fold max ⊥ fun r => t (K + r.val))
      = (Finset.univ : Finset (Fin B)).sup fun r => t (K + r.val) := rfl
  rw [e]
  apply le_antisymm
  · refine Finset.sup_le fun n hn => ?_
    rcases Nat.lt_or_ge n K with h | h
    · exact le_max_of_le_left (le_M t h)
    · have hb : n - K < B := by have := Finset.mem_range.1 hn; omega
      refine le_max_of_le_right ?_
      have := Finset.le_sup (f := fun r : Fin B => t (K + r.val)) (Finset.mem_univ ⟨n - K, hb⟩)
      simpa only [Nat.add_sub_cancel' h] using this
  · refine max_le (Finset.sup_le fun n hn => le_M t ?_) (Finset.sup_le fun r _ => le_M t ?_)
    · have := Finset.mem_range.1 hn; omega
    · have := r.isLt; omega

/-- The weighted sum of the first `K` exponentials, at the maximum of the first `K` scores. -/
def W (x t : ℕ → EReal) (K : ℕ) : EReal := ∑ n ∈ Finset.range K, x n * E (t n) (M t K)

/-- A weighted sum of no row is zero. -/
theorem W_zero (x t : ℕ → EReal) : W x t 0 = 0 := rfl

/-- One block's update of a weighted sum: rescale what was there, and add the block's terms at the new maximum. -/
theorem W_add (x t : ℕ → EReal) (K B : ℕ) :
    W x t (K + B) = W x t K * E (M t K) (M t (K + B))
      + ∑ r : Fin B, x (K + r.val) * E (t (K + r.val)) (M t (K + B)) := by
  have hle : M t K ≤ M t (K + B) := by rw [M_add]; exact le_max_left _ _
  unfold W
  rw [sum_mul _ _ (E_nonneg _ _) (E_ne_top hle), Finset.sum_range_add,
    Finset.sum_range fun r => x (K + r) * E (t (K + r)) (M t (K + B))]
  congr 1
  refine Finset.sum_congr rfl fun n hn => ?_
  rw [mul_assoc, E_mul (le_M t (Finset.mem_range.1 hn)) hle]

/-- The maximum is attained when it is not minus infinity. -/
theorem M_mem (t : ℕ → EReal) (K : ℕ) (h : M t K ≠ ⊥) : ∃ n, n < K ∧ t n = M t K := by
  have hne : (Finset.range K).Nonempty := by
    by_contra hc
    exact h (by unfold M; rw [Finset.not_nonempty_iff_eq_empty.1 hc, Finset.sup_empty])
  obtain ⟨n, hn, e⟩ := Finset.exists_mem_eq_sup _ hne t
  exact ⟨n, Finset.mem_range.1 hn, e.symm⟩

/-- The maximum a reader of finite values takes: the maximum where it is finite, else zero. -/
def fin (M : EReal) : EReal := if M = ⊤ ∨ M = ⊥ then 0 else M

/-- A division by something positive is a multiplication by its inverse. -/
theorem div_pos_eq (a : EReal) {b : EReal} (h : 0 < b) : Ideal.div a b = a * b⁻¹ := if_neg h.ne'

/-- An inverse is not infinity. -/
theorem inv_ne_top' (b : EReal) : b⁻¹ ≠ ⊤ := by
  induction b using EReal.rec with
  | bot => rw [EReal.inv_bot]; exact EReal.zero_ne_top
  | top => rw [EReal.inv_top]; exact EReal.zero_ne_top
  | coe r => rw [← EReal.coe_inv]; exact EReal.coe_ne_top _

/-- A finite sum of nonnegative extended reals one of which is plus infinity is plus infinity. -/
theorem sum_top {ι : Type} (S : Finset ι) (f : ι → EReal) (hf : ∀ i, 0 ≤ f i) {a : ι} (ha : a ∈ S) (e : f a = ⊤) :
    ∑ i ∈ S, f i = ⊤ := by
  have := Finset.single_le_sum (f := f) (fun i _ => hf i) ha
  rw [e] at this
  exact top_le_iff.1 this

/-- THE EQUATION. `hit n` says row `n` is in the segment, `s n` is its score, `x n` its value, and `eps` is positive.
    The accumulated numerators over the accumulated denominator plus `eps` are the sum of the segment's values, each
    times its own weight: its exponential at the finite maximum over the segment's sum of exponentials plus `eps`. -/
theorem quotient (x s : ℕ → EReal) (hit : ℕ → Prop) [DecidablePred hit] (K : ℕ) {eps : EReal} (he : 0 < eps)
    (t : ℕ → EReal) (ht : ∀ n, t n = if hit n then s n else ⊥) :
    Ideal.div (W x t K) (W (fun _ => 1) t K + eps)
      = ∑ n ∈ Finset.range K, if hit n then
          x n * Ideal.div (Ideal.exp (s n - fin (M t K)))
            ((∑ n ∈ Finset.range K, if hit n then Ideal.exp (s n - fin (M t K)) else 0) + eps)
        else 0 := by
  have hnn : ∀ (S : Finset ℕ) (f : ℕ → EReal), (∀ n, 0 ≤ f n) → 0 < (∑ n ∈ S, f n) + eps := fun S f hf =>
    lt_of_lt_of_le he (le_add_of_nonneg_left (Finset.sum_nonneg fun n _ => hf n))
  have hite : ∀ n (a : EReal), 0 ≤ a → 0 ≤ if hit n then a else 0 := fun n a ha => by
    split
    · exact ha
    · exact le_refl _
  have hW : 0 < W (fun _ => 1) t K + eps := hnn _ _ fun n => mul_nonneg zero_le_one (E_nonneg _ _)
  rw [div_pos_eq _ hW]
  have hR : ∀ a : EReal, Ideal.div a
      ((∑ n ∈ Finset.range K, if hit n then Ideal.exp (s n - fin (M t K)) else 0) + eps) = a *
      ((∑ n ∈ Finset.range K, if hit n then Ideal.exp (s n - fin (M t K)) else 0) + eps)⁻¹ := fun a =>
    div_pos_eq _ (hnn _ _ fun n => hite n _ (exp_nonneg _))
  simp only [hR]
  rcases eq_or_ne (M t K) ⊤ with hM | hM
  · -- the maximum is plus infinity: every weight is zero on both sides
    have h0 : W x t K = 0 := Finset.sum_eq_zero fun n _ => by rw [hM, E_top_right, mul_zero]
    obtain ⟨a, ha, ea⟩ := M_mem t K (by rw [hM]; decide)
    rw [hM] at ea
    have hha : hit a := by
      by_contra hc
      rw [ht, if_neg hc] at ea
      exact absurd ea (by decide)
    rw [ht, if_pos hha] at ea
    have hs : (∑ n ∈ Finset.range K, if hit n then Ideal.exp (s n - fin (M t K)) else 0) = ⊤ :=
      sum_top _ _ (fun n => hite n _ (exp_nonneg _)) (Finset.mem_range.2 ha) (by
        rw [if_pos hha, ea, fin, if_pos (Or.inl hM), sub_zero, Ideal.exp_top])
    rw [h0, zero_mul, hs, EReal.top_add_of_ne_bot he.ne_bot, EReal.inv_top]
    exact (Finset.sum_eq_zero fun n _ => by simp).symm
  rcases eq_or_ne (M t K) ⊥ with hB | hB
  · -- the maximum is minus infinity: every exponential is zero on both sides
    have h0 : W x t K = 0 := Finset.sum_eq_zero fun n _ => by rw [hB, E_bot_right, mul_zero]
    rw [h0, zero_mul]
    refine (Finset.sum_eq_zero fun n hn => ?_).symm
    split
    · next hh =>
      have := le_M t (Finset.mem_range.1 hn)
      rw [hB, le_bot_iff, ht, if_pos hh] at this
      rw [this, EReal.bot_sub, Ideal.exp_bot, zero_mul, mul_zero]
    · rfl
  · -- the maximum is a real number: the same exponentials on both sides
    have hf : fin (M t K) = M t K := if_neg (by rintro (h | h); exacts [hM h, hB h])
    have hE : ∀ n, E (t n) (M t K) = if hit n then Ideal.exp (s n - fin (M t K)) else 0 := fun n => by
      rw [ht]
      split
      · rw [E, if_neg hB, hf]
      · rw [E_bot_left]
    have hd : W (fun _ => 1) t K = ∑ n ∈ Finset.range K, if hit n then Ideal.exp (s n - fin (M t K)) else 0 :=
      Finset.sum_congr rfl fun n _ => by rw [one_mul, hE]
    rw [hd]
    unfold W
    rw [sum_mul _ _ (EReal.inv_nonneg_of_nonneg (hnn _ _ fun n => hite n _ (exp_nonneg _)).le) (inv_ne_top' _)]
    refine Finset.sum_congr rfl fun n _ => ?_
    rw [hE]
    split
    · rw [mul_assoc]
    · rw [mul_zero, zero_mul]

end Cert.Soft

end
-- ==== Proof.Spec.lean ====
/- What is computed, over the extended reals: per row a score, per segment the softmax of its rows' scores, and per
   segment and column the weighted sum of its rows. Rows are numbered by natural numbers; a number beyond the last row is
   in no segment. -/
module

public import proofs.«01_k».proof.Proof.Soft

@[expose] public section

noncomputable section

namespace Cert.Soft

open Idealize.ShloMosaic

/-- A row's attention score: two layers, the first with a bias and a hyperbolic tangent. -/
def score (xr : Fin 128 → EReal) (W1 : Fin 128 → Fin 128 → EReal) (b1 W2 : Fin 128 → EReal) : EReal :=
  ∑ h, Ideal.tanh ((∑ k, xr k * W1 k h) + b1 h) * W2 h

/-- The word of minus infinity. -/
theorem ofBits_ninf : Ideal.ofBits .f32 0xFF800000#32 = ⊥ := by simp [Ideal.ofBits, Ideal.ieee]

/-- The word of infinity. -/
theorem ofBits_pinf : Ideal.ofBits .f32 0x7F800000#32 = ⊤ := by simp [Ideal.ofBits, Ideal.ieee]

/-- The small number added to a denominator. -/
def eps : EReal := Ideal.ofBits .f32 0x24E69595#32

/-- The small number is positive. -/
theorem eps_pos : 0 < eps := by
  have h : eps = ((15111573 * (2 ^ 77)⁻¹ : ℝ) : EReal) := by
    simp [eps, Ideal.ofBits, Ideal.ieee]
  rw [h, EReal.coe_pos]
  positivity

/-- The five arguments, as functions of their indices. -/
structure Args where
  x : Fin 100000 → Fin 128 → EReal
  W1 : Fin 128 → Fin 128 → EReal
  b1 : Fin 128 → EReal
  W2 : Fin 128 → EReal
  id : Fin 100000 → BitVec 32

namespace Args

variable (A : Args)

/-- Row `n`'s score. -/
def s (n : ℕ) : EReal := if h : n < 100000 then score (A.x ⟨n, h⟩) A.W1 A.b1 A.W2 else ⊥

/-- Row `n`'s value in column `c`. -/
def col (c : Fin 128) (n : ℕ) : EReal := if h : n < 100000 then A.x ⟨n, h⟩ c else 0

/-- Row `n` is in segment `g`. -/
def hit (g : Fin 256) (n : ℕ) : Prop := ∃ h : n < 100000, A.id ⟨n, h⟩ = BitVec.ofNat 32 g.val

/-- Whether a row is in a segment is decidable. -/
instance (g : Fin 256) : DecidablePred (A.hit g) := fun n => by unfold hit; infer_instance

/-- Row `n`'s score where the row is in segment `g`, else minus infinity. -/
def t (g : Fin 256) (n : ℕ) : EReal := if A.hit g n then A.s n else ⊥

/-- The result at segment `g` and column `c`, as accumulated numerators over the accumulated denominator. -/
def quot (g : Fin 256) (c : Fin 128) : EReal :=
  Ideal.div (W (A.col c) (A.t g) 100000) (W (fun _ => 1) (A.t g) 100000 + eps)

end Args

end Cert.Soft

end
-- ==== Proof.Step.lean ====
/- What one grid point leaves behind: in the block of the transposed result, and in the two scratch rows that carry
   the running maxima and the running denominators from one point to the next. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Att

open Cert.KernelIdeal Cert.KernelIdeal.Gen
open Idealize.ShloMosaic Idealize.ShloMosaic.TcCoe Idealize.SL.Sem

variable {F : FTy → Type} [FloatOps F]

/-- Two zero offsets. -/
theorem hz : (![0, 0] : Fin 2 → Nat) = fun _ => 0 := funext fun a => by fin_cases a <;> rfl
/-- Three zero offsets. -/
theorem hz3 : (![0, 0, 0] : Fin 3 → Nat) = fun _ => 0 := funext fun a => by fin_cases a <;> rfl

section Block

variable (x0 : Vec F S2000x128 .f32) (x1 : Vec F S1x2000x1 .i32) (x2 : Vec F S128x128 .f32) (x3 : Vec F S1x128 .f32)
  (x4 : Vec F S1x128 .f32)

/-- The running maxima after a block: the old ones against the block's maxima. -/
def mStep (mo : Vec F S1x256 .f32) : Vec F S1x256 .f32 := k0_pay12 x0 x2 x3 x4 x1 mo

/-- The running denominators after a block: the old ones rescaled, plus the block's sums. -/
def dStep (mo dn : Vec F S1x256 .f32) : Vec F S1x256 .f32 :=
  k0_pay4 (k0_pay10 x0 x2 x3 x4) (k0_pay11 (F := F) x1) (k0_pay12 x0 x2 x3 x4 x1 mo) (k0_pay13 x0 x2 x3 x4 x1 mo) dn

/-- The transposed numerators after a block: the old ones rescaled, plus the block's weighted sums. -/
def oStep (mo : Vec F S1x256 .f32) (o : Vec F S128x256 .f32) : Vec F S128x256 .f32 :=
  k0_pay5 x0 (k0_pay10 x0 x2 x3 x4) (k0_pay11 (F := F) x1) (k0_pay12 x0 x2 x3 x4 x1 mo) (k0_pay13 x0 x2 x3 x4 x1 mo) o

end Block

section Cases

variable (c : Dev nD) (i : grid0.Coords)
  (arg1 : Memref sig .tc .vmem S2000x128 .f32) (harg1 : arg1.IsWhole)
  (arg2 : Memref sig .tc .vmem S1x2000x1 .i32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S128x256 .f32) (harg6 : arg6.IsWhole)
  (arg7 : Memref sig .tc .vmem S1x256 .f32) (harg7 : arg7.IsWhole)
  (arg8 : Memref sig .tc .vmem S1x256 .f32) (harg8 : arg8.IsWhole)
  (x0 : Vec F S2000x128 .f32) (x1 : Vec F S1x2000x1 .i32) (x2 : Vec F S128x128 .f32) (x3 : Vec F S1x128 .f32)
  (x4 : Vec F S1x128 .f32) (xo5 : Vec F S128x256 .f32) (xs0 xs1 : Vec F S1x256 .f32)

/-- A middle point leaves the stepped numerators in the result's block. -/
theorem out_B (hc0 : ¬cond0_0 i) (hc1 : ¬cond0_1 i) :
    out0_B_5 c i arg1 harg1 arg2 harg2 arg3 harg3 arg4 harg4 arg5 harg5 arg6 harg6 arg7 harg7 arg8 harg8 hc0 hc1
      x0 x1 x2 x3 x4 xo5 xs0 xs1 = oStep x0 x1 x2 x3 x4 xs0 xo5 := by
  unfold out0_B_5
  rw [View.read_writes_eq_canon _ _ _ (cover0_B_5 c i arg1 harg1 arg2 harg2 arg3 harg3 arg4 harg4 arg5 harg5 arg6 harg6
    arg7 harg7 arg8 harg8 hc0 hc1 x0 x1 x2 x3 x4 xo5 xs0 xs1)]
  unfold kernelRun0_B
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread,
    View.ld_unit_zero (S := S2000x128) hz, View.ld_unit_zero (S := S1x2000x1) hz3, View.ld_unit_zero (S := S128x128) hz,
    View.ld_unit_zero (S := S1x128) hz, View.ld_unit_zero (S := S128x256) hz, View.ld_unit_zero (S := S1x256) hz]
  rfl

/-- A middle point leaves the stepped maxima in the first scratch row. -/
theorem sout0_B (hc0 : ¬cond0_0 i) (hc1 : ¬cond0_1 i) :
    sout0_B_0 c i arg1 harg1 arg2 harg2 arg3 harg3 arg4 harg4 arg5 harg5 arg6 harg6 arg7 harg7 arg8 harg8 hc0 hc1
      x0 x1 x2 x3 x4 xo5 xs0 xs1 = mStep x0 x1 x2 x3 x4 xs0 := by
  unfold sout0_B_0
  rw [View.read_writes_eq_canon _ _ _ (scover0_B_0 c i arg1 harg1 arg2 harg2 arg3 harg3 arg4 harg4 arg5 harg5 arg6 harg6
    arg7 harg7 arg8 harg8 hc0 hc1 x0 x1 x2 x3 x4 xo5 xs0 xs1)]
  unfold kernelRun0_B
  dsimp only
  sl_unfold_words
  rw [View.canon_unit_zero hz]
  unfold k0_pay1
  simp only [View.readAt_eq_ld, harg1.read_unread, harg2.read_unread, harg3.read_unread, harg4.read_unread,
    harg5.read_unread, harg6.read_unread, harg7.read_unread, harg8.read_unread, shapeCast_self,
    View.ld_unit_zero (S := S2000x128) hz, View.ld_unit_zero (S := S1x2000x1) hz3, View.ld_unit_zero (S := S128x128) hz,
    View.ld_unit_zero (S := S1x128) hz, View.ld_unit_zero (S := S128x256) hz, View.ld_unit_zero (S := S1x256) hz]
  rfl

/-- A middle point leaves the stepped denominators in the second scratch row. -/
theorem sout1_B (hc0 : ¬cond0_0 i) (hc1 : ¬cond0_1 i) :
    sout0_B_1 c i arg1 harg1 arg2 harg2 arg3 harg3 arg4 harg4 arg5 harg5 arg6 harg6 arg7 harg7 arg8 harg8 hc0 hc1
      x0 x1 x2 x3 x4 xo5 xs0 xs1 = dStep x0 x1 x2 x3 x4 xs0 xs1 := by
  unfold sout0_B_1
  rw [View.read_writes_eq_canon _ _ _ (scover0_B_1 c i arg1 harg1 arg2 harg2 arg3 harg3 arg4 harg4 arg5 harg5 arg6 harg6
    arg7 harg7 arg8 harg8 hc0 hc1 x0 x1 x2 x3 x4 xo5 xs0 xs1)]
  unfold kernelRun0_B
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread,
    View.ld_unit_zero (S := S2000x128) hz, View.ld_unit_zero (S := S1x2000x1) hz3, View.ld_unit_zero (S := S128x128) hz,
    View.ld_unit_zero (S := S1x128) hz, View.ld_unit_zero (S := S128x256) hz, View.ld_unit_zero (S := S1x256) hz]
  rfl

/-- The last point divides the stepped numerators by the stepped denominators. -/
theorem out_C (hc0 : ¬cond0_0 i) (hc1 : cond0_1 i) :
    out0_C_5 c i arg1 harg1 arg2 harg2 arg3 harg3 arg4 harg4 arg5 harg5 arg6 harg6 arg7 harg7 arg8 harg8 hc0 hc1
      x0 x1 x2 x3 x4 xo5 xs0 xs1 = k0_pay6 (oStep x0 x1 x2 x3 x4 xs0 xo5) (dStep x0 x1 x2 x3 x4 xs0 xs1) := by
  unfold out0_C_5
  rw [View.read_writes_eq_canon _ _ _ (cover0_C_5 c i arg1 harg1 arg2 harg2 arg3 harg3 arg4 harg4 arg5 harg5 arg6 harg6
    arg7 harg7 arg8 harg8 hc0 hc1 x0 x1 x2 x3 x4 xo5 xs0 xs1)]
  unfold kernelRun0_C
  dsimp only
  sl_unfold_words
  rw [View.canon_cons_unit_zero (S := S128x256) hz]
  simp only [View.readCov_unit_zero (S := S128x256) _ hz, View.readCov_unit_zero (S := S1x256) _ hz,
    View.readAt_eq_ld, harg1.read_unread, harg2.read_unread, harg3.read_unread, harg4.read_unread,
    harg5.read_unread, harg6.read_unread, harg7.read_unread, harg8.read_unread,
    View.ld_unit_zero (S := S2000x128) hz, View.ld_unit_zero (S := S1x2000x1) hz3, View.ld_unit_zero (S := S128x128) hz,
    View.ld_unit_zero (S := S1x128) hz, View.ld_unit_zero (S := S128x256) hz, View.ld_unit_zero (S := S1x256) hz]
  rfl

/-- The first point steps from zero numerators. -/
theorem out_A (hc0 : cond0_0 i) (hc1 : ¬cond0_1 i) :
    out0_A_5 c i arg1 harg1 arg2 harg2 arg3 harg3 arg4 harg4 arg5 harg5 arg6 harg6 arg7 harg7 arg8 harg8 hc0 hc1
      x0 x1 x2 x3 x4 = oStep x0 x1 x2 x3 x4 k0_pay8 k0_pay7 := by
  unfold out0_A_5
  rw [View.read_writes_eq_canon _ _ _ (cover0_A_5 c i arg1 harg1 arg2 harg2 arg3 harg3 arg4 harg4 arg5 harg5 arg6 harg6
    arg7 harg7 arg8 harg8 hc0 hc1 x0 x1 x2 x3 x4)]
  unfold kernelRun0_A
  dsimp only
  sl_unfold_words
  rw [View.canon_cons_unit_zero (S := S128x256) hz]
  simp only [View.readCov_unit_zero (S := S128x256) _ hz, View.readCov_unit_zero (S := S1x256) _ hz,
    View.readAt_eq_ld, harg1.read_unread, harg2.read_unread, harg3.read_unread, harg4.read_unread,
    harg5.read_unread, harg6.read_unread, harg7.read_unread, harg8.read_unread,
    View.ld_unit_zero (S := S2000x128) hz, View.ld_unit_zero (S := S1x2000x1) hz3, View.ld_unit_zero (S := S128x128) hz,
    View.ld_unit_zero (S := S1x128) hz, View.ld_unit_zero (S := S128x256) hz, View.ld_unit_zero (S := S1x256) hz]
  rfl

/-- The first point steps from maxima at minus infinity. -/
theorem sout0_A (hc0 : cond0_0 i) (hc1 : ¬cond0_1 i) :
    sout0_A_0 c i arg1 harg1 arg2 harg2 arg3 harg3 arg4 harg4 arg5 harg5 arg6 harg6 arg7 harg7 arg8 harg8 hc0 hc1
      x0 x1 x2 x3 x4 = mStep x0 x1 x2 x3 x4 k0_pay8 := by
  unfold sout0_A_0
  rw [View.read_writes_eq_canon _ _ _ (scover0_A_0 c i arg1 harg1 arg2 harg2 arg3 harg3 arg4 harg4 arg5 harg5 arg6 harg6
    arg7 harg7 arg8 harg8 hc0 hc1 x0 x1 x2 x3 x4)]
  unfold kernelRun0_A
  dsimp only
  sl_unfold_words
  rw [View.canon_cons_unit_zero (S := S1x256) hz]
  unfold k0_pay1
  simp only [View.readCov_unit_zero (S := S128x256) _ hz, View.readCov_unit_zero (S := S1x256) _ hz,
    View.readAt_eq_ld, harg1.read_unread, harg2.read_unread, harg3.read_unread, harg4.read_unread,
    harg5.read_unread, harg6.read_unread, harg7.read_unread, harg8.read_unread, shapeCast_self,
    View.ld_unit_zero (S := S2000x128) hz, View.ld_unit_zero (S := S1x2000x1) hz3, View.ld_unit_zero (S := S128x128) hz,
    View.ld_unit_zero (S := S1x128) hz, View.ld_unit_zero (S := S128x256) hz, View.ld_unit_zero (S := S1x256) hz]
  rfl

/-- The first point steps from zero denominators. -/
theorem sout1_A (hc0 : cond0_0 i) (hc1 : ¬cond0_1 i) :
    sout0_A_1 c i arg1 harg1 arg2 harg2 arg3 harg3 arg4 harg4 arg5 harg5 arg6 harg6 arg7 harg7 arg8 harg8 hc0 hc1
      x0 x1 x2 x3 x4 = dStep x0 x1 x2 x3 x4 k0_pay8 k0_pay9 := by
  unfold sout0_A_1
  rw [View.read_writes_eq_canon _ _ _ (scover0_A_1 c i arg1 harg1 arg2 harg2 arg3 harg3 arg4 harg4 arg5 harg5 arg6 harg6
    arg7 harg7 arg8 harg8 hc0 hc1 x0 x1 x2 x3 x4)]
  unfold kernelRun0_A
  dsimp only
  sl_unfold_words
  rw [View.canon_cons_unit_zero (S := S1x256) hz]
  simp only [View.readCov_unit_zero (S := S128x256) _ hz, View.readCov_unit_zero (S := S1x256) _ hz,
    View.readAt_eq_ld, harg1.read_unread, harg2.read_unread, harg3.read_unread, harg4.read_unread,
    harg5.read_unread, harg6.read_unread, harg7.read_unread, harg8.read_unread,
    View.ld_unit_zero (S := S2000x128) hz, View.ld_unit_zero (S := S1x2000x1) hz3, View.ld_unit_zero (S := S128x128) hz,
    View.ld_unit_zero (S := S1x128) hz, View.ld_unit_zero (S := S128x256) hz, View.ld_unit_zero (S := S1x256) hz]
  rfl

end Cases

end Cert.KernelIdeal.Att

end
-- ==== Proof.Block.lean ====
/- What one block of 2000 rows computes, read at an index over the extended reals: the running maximum, the running sum of
   exponentials and the running weighted sums of one segment, each from its value before the block. -/
module

public import proofs.«01_k».proof.Proof.Spec
public import proofs.«01_k».proof.Proof.Step
public import Idealize.ShloMosaic.Lib.Pointwise

@[expose] public section

set_option maxRecDepth 16384

noncomputable section

namespace Cert.Soft

open Idealize.ShloMosaic

/-- The maximum over the segments of a value kept at one segment only is that segment's value. -/
theorem fold_only (f : Fin 256 → EReal) (p : Fin 256 → Prop) [DecidablePred p] (g : Fin 256) (h : ∀ g', p g' ↔ g' = g) :
    ((Finset.univ : Finset (Fin 256)).fold max ⊥ fun g' => if p g' then f g' else ⊥) = f g := by
  have e : ((Finset.univ : Finset (Fin 256)).fold max ⊥ fun g' => if p g' then f g' else ⊥)
      = (Finset.univ : Finset (Fin 256)).sup fun g' => if p g' then f g' else ⊥ := rfl
  rw [e]
  apply le_antisymm
  · refine Finset.sup_le fun g' _ => ?_
    split
    · next hp => rw [(h g').1 hp]
    · exact bot_le
  · have := Finset.le_sup (f := fun g' => if p g' then f g' else ⊥) (Finset.mem_univ g)
    simpa only [if_pos ((h g).2 rfl)] using this

end Cert.Soft

namespace Cert.KernelIdeal.Att

open Cert.KernelIdeal Cert.KernelIdeal.Gen
open Idealize.ShloMosaic Idealize.ShloMosaic.TcCoe Idealize.SL.Sem
open Cert.Soft (E score eps)

variable (x0 : Vec Ideal S2000x128 .f32) (x1 : Vec Ideal S1x2000x1 .i32) (x2 : Vec Ideal S128x128 .f32) (x3 : Vec Ideal S1x128 .f32)
  (x4 : Vec Ideal S1x128 .f32) (mo dn : Vec Ideal S1x256 .f32) (o : Vec Ideal S128x256 .f32)

/-- The score of row `r` of the block. -/
def sc (r : Fin 2000) : EReal :=
  score (fun k => x0 (ix2 r k)) (fun k h => x2 (ix2 k h)) (fun h => x3 (ix2 0 h)) (fun h => x4 (ix2 0 h))

/-- The score of row `r` of the block where the row is in segment `g`, else minus infinity. -/
def tsc (g : Fin 256) (r : Fin 2000) : EReal :=
  if x1 (ix3 0 r 0) = BitVec.ofNat 32 g.val then sc x0 x2 x3 x4 r else ⊥

/-- The scores a block computes are its rows' scores. -/
theorem pay10_apply (r : Fin 2000) : k0_pay10 x0 x2 x3 x4 (ix2 r 0) = sc x0 x2 x3 x4 r := by
  pointwise [k0_pay10]
  rfl

/-- The mask of the rows in segment `g`. -/
theorem pay11_apply (r : Fin 2000) (g : Fin 256) :
    k0_pay11 (F := Ideal) x1 (ix2 r g) = if x1 (ix3 0 r 0) = BitVec.ofNat 32 g.val then 1#1 else 0#1 := by
  pointwise [k0_pay11]
  show BitVec.ofBool (x1 (ix3 0 r 0) == BitVec.ofNat 32 g.val) = _
  by_cases h : x1 (ix3 0 r 0) = BitVec.ofNat 32 g.val
  · rw [if_pos h, h, beq_self_eq_true]; rfl
  · rw [if_neg h, beq_eq_false_iff_ne.2 h]; rfl

/-- The block's new maximum. -/
theorem mStep_apply (g : Fin 256) : mStep x0 x1 x2 x3 x4 mo (ix2 0 g)
    = max (mo (ix2 0 g)) ((Finset.univ : Finset (Fin 2000)).fold max ⊥ fun r => tsc x0 x1 x2 x3 x4 g r) := by
  pointwise [mStep, k0_pay12]
  rw [Cert.Soft.ofBits_ninf]
  simp only [pay11_apply, pay10_apply]
  congr 2
  funext r
  unfold tsc
  by_cases h : x1 (ix3 0 r 0) = BitVec.ofNat 32 g.val
  · rw [if_pos h, if_pos h]; rfl
  · rw [if_neg h, if_neg h]; rfl

/-- The factor that carries the old sums to the new maximum. -/
theorem scale_apply (g : Fin 256) : k0_pay13 x0 x2 x3 x4 x1 mo (ix2 0 g)
    = E (mo (ix2 0 g)) (mStep x0 x1 x2 x3 x4 mo (ix2 0 g)) := by
  pointwise [k0_pay13]
  rw [Cert.Soft.ofBits_ninf]
  rfl

/-- The exponential of a row in segment `g`. -/
theorem expo_apply (s : FVec Ideal S2000x1 .f32) (mn : FVec Ideal S1x256 .f32) (r : Fin 2000) (g : Fin 256)
    (h : x1 (ix3 0 r 0) = BitVec.ofNat 32 g.val) :
    k0_pay2 s (k0_pay11 (F := Ideal) x1) mn (ix2 r 0) = E (s (ix2 r 0)) (mn (ix2 0 g)) := by
  have hp : ∀ g' : Fin 256, x1 (ix3 0 r 0) = BitVec.ofNat 32 g'.val ↔ g' = g := fun g' => by
    rw [h]
    constructor
    · intro e
      have := congrArg BitVec.toNat e
      have h1 := g.isLt
      have h2 := g'.isLt
      simp only [BitVec.toNat_ofNat] at this
      apply Fin.ext
      omega
    · rintro rfl; rfl
  have hf : ((Finset.univ : Finset (Fin 256)).fold max ⊥
      fun g' => Scalar.select (k0_pay11 (F := Ideal) x1 (ix2 r g')) (mn (ix2 0 g')) (⊥ : EReal)) = mn (ix2 0 g) := by
    rw [← Cert.Soft.fold_only (fun g' => mn (ix2 0 g')) (fun g' => x1 (ix3 0 r 0) = BitVec.ofNat 32 g'.val) g hp]
    congr 1
    funext g'
    rw [pay11_apply]
    by_cases hg : x1 (ix3 0 r 0) = BitVec.ofNat 32 g'.val
    · rw [if_pos hg, if_pos hg]; rfl
    · rw [if_neg hg, if_neg hg]; rfl
  pointwise [k0_pay2]
  rw [Cert.Soft.ofBits_ninf]
  erw [hf]
  rfl

/-- The mask as a number. -/
theorem mask_apply (r : Fin 2000) (g : Fin 256) : k0_pay3 (F := Ideal) (k0_pay11 (F := Ideal) x1) (ix2 r g)
    = if x1 (ix3 0 r 0) = BitVec.ofNat 32 g.val then (1 : EReal) else 0 := by
  pointwise [k0_pay3]
  rw [pay11_apply]
  by_cases h : x1 (ix3 0 r 0) = BitVec.ofNat 32 g.val
  · rw [if_pos h, if_pos h]
    show (((BitVec.setWidth 32 1#1).toInt : ℝ) : EReal) = 1
    norm_num
  · rw [if_neg h, if_neg h]
    show (((BitVec.setWidth 32 0#1).toInt : ℝ) : EReal) = 0
    norm_num

/-- The new sums of exponentials: the old ones rescaled, plus a sum over the rows. -/
theorem pay4_apply (s : FVec Ideal S2000x1 .f32) (mk : IVec S2000x256 1) (mn scl : FVec Ideal S1x256 .f32) (g : Fin 256) :
    k0_pay4 s mk mn scl dn (ix2 0 g) = dn (ix2 0 g) * scl (ix2 0 g)
      + ∑ r, k0_pay3 (F := Ideal) mk (ix2 r g) * k0_pay2 s mk mn (ix2 r 0) := by
  pointwise [k0_pay4]

/-- The new weighted sums: the old ones rescaled, plus a sum over the rows. -/
theorem pay5_apply (s : FVec Ideal S2000x1 .f32) (mk : IVec S2000x256 1) (mn scl : FVec Ideal S1x256 .f32) (c : Fin 128)
    (g : Fin 256) :
    k0_pay5 x0 s mk mn scl o (ix2 c g) = o (ix2 c g) * scl (ix2 0 g)
      + ∑ r, x0 (ix2 r c) * k0_pay2 s mk mn (ix2 r 0) * k0_pay3 (F := Ideal) mk (ix2 r g) := by
  pointwise [k0_pay5]

/-- The block's new sum of exponentials. -/
theorem dStep_apply (g : Fin 256) : dStep x0 x1 x2 x3 x4 mo dn (ix2 0 g)
    = dn (ix2 0 g) * E (mo (ix2 0 g)) (mStep x0 x1 x2 x3 x4 mo (ix2 0 g))
      + ∑ r, 1 * E (tsc x0 x1 x2 x3 x4 g r) (mStep x0 x1 x2 x3 x4 mo (ix2 0 g)) := by
  have hs : ∀ r : Fin 2000, k0_pay3 (F := Ideal) (k0_pay11 (F := Ideal) x1) (ix2 r g)
        * k0_pay2 (k0_pay10 x0 x2 x3 x4) (k0_pay11 (F := Ideal) x1) (k0_pay12 x0 x2 x3 x4 x1 mo) (ix2 r 0)
      = 1 * E (tsc x0 x1 x2 x3 x4 g r) (mStep x0 x1 x2 x3 x4 mo (ix2 0 g)) := fun r => by
    rw [mask_apply, tsc]
    split
    · next h => rw [expo_apply x1 _ _ r g h, pay10_apply]; rfl
    · rw [Cert.Soft.E_bot_left, mul_zero]; exact zero_mul _
  rw [dStep, pay4_apply, scale_apply]
  simp only [hs]

/-- The block's new weighted sum of column `c`. -/
theorem oStep_apply (c : Fin 128) (g : Fin 256) : oStep x0 x1 x2 x3 x4 mo o (ix2 c g)
    = o (ix2 c g) * E (mo (ix2 0 g)) (mStep x0 x1 x2 x3 x4 mo (ix2 0 g))
      + ∑ r, x0 (ix2 r c) * E (tsc x0 x1 x2 x3 x4 g r) (mStep x0 x1 x2 x3 x4 mo (ix2 0 g)) := by
  have hs : ∀ r : Fin 2000, x0 (ix2 r c)
        * k0_pay2 (k0_pay10 x0 x2 x3 x4) (k0_pay11 (F := Ideal) x1) (k0_pay12 x0 x2 x3 x4 x1 mo) (ix2 r 0)
        * k0_pay3 (F := Ideal) (k0_pay11 (F := Ideal) x1) (ix2 r g)
      = x0 (ix2 r c) * E (tsc x0 x1 x2 x3 x4 g r) (mStep x0 x1 x2 x3 x4 mo (ix2 0 g)) := fun r => by
    rw [mask_apply, tsc]
    split
    · next h => rw [expo_apply x1 _ _ r g h, pay10_apply]; exact mul_one _
    · rw [Cert.Soft.E_bot_left]
      exact (mul_zero (M₀ := EReal) _).trans (mul_zero (M₀ := EReal) _).symm
  rw [oStep, pay5_apply, scale_apply]
  simp only [hs]

/-- The quotient the last block leaves. -/
theorem pay6_apply (c : Fin 128) (g : Fin 256) :
    k0_pay6 o dn (ix2 c g) = Ideal.div (o (ix2 c g)) (dn (ix2 0 g) + eps) := by
  pointwise [k0_pay6]
  rfl

/-- The weighted sums start at zero. -/
theorem pay7_apply (c : Fin 128) (g : Fin 256) : k0_pay7 (F := Ideal) (ix2 c g) = (0 : EReal) := by
  pointwise [k0_pay7]

/-- The maxima start at minus infinity. -/
theorem pay8_apply (g : Fin 256) : k0_pay8 (F := Ideal) (ix2 0 g) = (⊥ : EReal) := by
  pointwise [k0_pay8]
  exact Cert.Soft.ofBits_ninf

/-- The sums of exponentials start at zero. -/
theorem pay9_apply (g : Fin 256) : k0_pay9 (F := Ideal) (ix2 0 g) = (0 : EReal) := by
  pointwise [k0_pay9]

end Cert.KernelIdeal.Att

end
-- ==== Proof.Inputs.lean ====
/- The five inputs' blocks at a grid point, read at an index: point `t` holds rows `2000 t` to `2000 t + 1999` of the rows
   and of the segment numbers, and the whole of the two layers' weights. -/
module

public import proofs.«01_k».proof.Proof.Block
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.SL.Sem
open Cert.Soft (Args)

variable (m : (ℓ : Loc nD τ sig) → Buf (Elt Ideal) ℓ) (c : Dev nD)

/-- The kernel's arguments on one device, as functions of their indices. -/
def args : Args where
  x n k := m ((c : Thread nD τ).loc main_arg0) (ix2 n k)
  W1 k h := m ((c : Thread nD τ).loc main_arg1) (ix2 k h)
  b1 h := m ((c : Thread nD τ).loc main_arg2) (ix1 h)
  W2 h := m ((c : Thread nD τ).loc main_arg3) (ix2 h 0)
  id n := m ((c : Thread nD τ).loc main_arg4) (ix1 n)

/-- Point `t`'s block of the rows is the `t`-th. -/
theorem idx0 : ∀ t : Fin cfg0.N, win0_0.index t (0 : Fin 2) = t.val ∧ win0_0.index t (1 : Fin 2) = 0 :=
  (by decide +kernel : ∀ t : Fin grid0.N, _)

/-- Point `t`'s block of the segment numbers is the `t`-th. -/
theorem idx1 : ∀ t : Fin cfg0.N, win0_1.index t (0 : Fin 3) = t.val ∧ win0_1.index t (1 : Fin 3) = 0
    ∧ win0_1.index t (2 : Fin 3) = 0 :=
  (by decide +kernel : ∀ t : Fin grid0.N, _)

/-- Every point's block of the first layer's weights is the whole array. -/
theorem idx2 : ∀ t : Fin cfg0.N, win0_2.index t (0 : Fin 2) = 0 ∧ win0_2.index t (1 : Fin 2) = 0 :=
  (by decide +kernel : ∀ t : Fin grid0.N, _)

/-- Every point's block of the bias is the whole array. -/
theorem idx3 : ∀ t : Fin cfg0.N, win0_3.index t (0 : Fin 2) = 0 ∧ win0_3.index t (1 : Fin 2) = 0 :=
  (by decide +kernel : ∀ t : Fin grid0.N, _)

/-- Every point's block of the second layer's weights is the whole array. -/
theorem idx4 : ∀ t : Fin cfg0.N, win0_4.index t (0 : Fin 2) = 0 ∧ win0_4.index t (1 : Fin 2) = 0 :=
  (by decide +kernel : ∀ t : Fin grid0.N, _)

/-- The rows of every block are rows of the argument. -/
theorem row_lt (t : Fin cfg0.N) (r : Fin 2000) : 2000 * t.val + r.val < 100000 := by
  have h := t.isLt
  have hN : cfg0.N = 50 := N_0
  have := r.isLt
  omega

/-- The block of rows. -/
theorem iblk0_apply (t : Fin cfg0.N) (r : Fin 2000) (k : Fin 128) :
    (iblk m c 0 t : Vec Ideal S2000x128 .f32) (ix2 r k) = (args m c).x ⟨2000 * t.val + r.val, row_lt t r⟩ k := by
  unfold iblk
  rw [View.read_apply]
  show V m c main_arg0 _ = m (c.tc.loc main_arg0) _
  rw [V_main_arg0]
  show m (c.tc.loc main_arg0) _ = m (c.tc.loc main_arg0) _
  congr 1
  funext a
  apply Fin.ext
  match a with
  | ⟨0, _⟩ => show win0_0.index t 0 * 2000 + 1 * r.val = 2000 * t.val + r.val; rw [(idx0 t).1]; omega
  | ⟨1, _⟩ => show win0_0.index t 1 * 128 + 1 * k.val = k.val; rw [(idx0 t).2]; omega

/-- The host's three reshapes: the segment numbers into blocks, the bias and the second layer into rows. -/
theorem v0_eq : V m c main_v0 = shapeCast S50x2000x1 (m ((c : Thread nD τ).loc main_arg4)) shapeCasts_S100000_S50x2000x1 := by
  show StableHlo.after hostOps0 _ _ = _
  after_results_simp <;> rfl

/-- The bias as a row. -/
theorem v1_eq : V m c main_v1 = shapeCast S1x128 (m ((c : Thread nD τ).loc main_arg2)) shapeCasts_S128_S1x128 := by
  show StableHlo.after hostOps0 _ _ = _
  after_results_simp <;> rfl

/-- The second layer's weights as a row. -/
theorem v2_eq : V m c main_v2 = shapeCast S1x128 (m ((c : Thread nD τ).loc main_arg3)) shapeCasts_S128x1_S1x128 := by
  show StableHlo.after hostOps0 _ _ = _
  after_results_simp <;> rfl

/-- The segment numbers in blocks, read at an index. -/
theorem v0_apply (t : Fin 50) (r : Fin 2000) (h : 2000 * t.val + r.val < 100000) :
    V m c main_v0 (ix3 t r 0) = m ((c : Thread nD τ).loc main_arg4) (ix1 ⟨2000 * t.val + r.val, h⟩) := by
  rw [v0_eq]
  pointwise
  congr 3
  omega

/-- The bias as a row, read at an index. -/
theorem v1_apply (h : Fin 128) : V m c main_v1 (ix2 0 h) = m ((c : Thread nD τ).loc main_arg2) (ix1 h) := by
  rw [v1_eq]
  pointwise

/-- The second layer's weights as a row, read at an index. -/
theorem v2_apply (h : Fin 128) : V m c main_v2 (ix2 0 h) = m ((c : Thread nD τ).loc main_arg3) (ix2 h 0) := by
  rw [v2_eq]
  pointwise

/-- The block of segment numbers. -/
theorem iblk1_apply (t : Fin cfg0.N) (r : Fin 2000) :
    (iblk m c 1 t : Vec Ideal S1x2000x1 .i32) (ix3 0 r 0) = (args m c).id ⟨2000 * t.val + r.val, row_lt t r⟩ := by
  have ht : t.val < 50 := Nat.lt_of_lt_of_eq t.isLt N_0
  refine Eq.trans ?_ (v0_apply m c ⟨t.val, ht⟩ r (row_lt t r))
  unfold iblk
  rw [View.read_apply]
  show V m c main_v0 _ = V m c main_v0 _
  congr 1
  funext a
  apply Fin.ext
  match a with
  | ⟨0, _⟩ => show win0_1.index t 0 * 1 + 1 * 0 = t.val; rw [(idx1 t).1]; omega
  | ⟨1, _⟩ => show win0_1.index t 1 * 2000 + 1 * r.val = r.val; rw [(idx1 t).2.1]; omega
  | ⟨2, _⟩ => show win0_1.index t 2 * 1 + 1 * 0 = 0; rw [(idx1 t).2.2]

/-- The first layer. -/
theorem iblk2_apply (t : Fin cfg0.N) (k h : Fin 128) :
    (iblk m c 2 t : Vec Ideal S128x128 .f32) (ix2 k h) = (args m c).W1 k h := by
  unfold iblk
  rw [View.read_apply]
  show V m c main_arg1 _ = m (c.tc.loc main_arg1) _
  rw [V_main_arg1]
  show m (c.tc.loc main_arg1) _ = m (c.tc.loc main_arg1) _
  congr 1
  funext a
  apply Fin.ext
  match a with
  | ⟨0, _⟩ => show win0_2.index t 0 * 128 + 1 * k.val = k.val; rw [(idx2 t).1]; omega
  | ⟨1, _⟩ => show win0_2.index t 1 * 128 + 1 * h.val = h.val; rw [(idx2 t).2]; omega

/-- The first layer's bias. -/
theorem iblk3_apply (t : Fin cfg0.N) (h : Fin 128) :
    (iblk m c 3 t : Vec Ideal S1x128 .f32) (ix2 0 h) = (args m c).b1 h := by
  refine Eq.trans ?_ (v1_apply m c h)
  unfold iblk
  rw [View.read_apply]
  show V m c main_v1 _ = V m c main_v1 _
  congr 1
  funext a
  apply Fin.ext
  match a with
  | ⟨0, _⟩ => show win0_3.index t 0 * 1 + 1 * 0 = 0; rw [(idx3 t).1]
  | ⟨1, _⟩ => show win0_3.index t 1 * 128 + 1 * h.val = h.val; rw [(idx3 t).2]; omega

/-- The second layer. -/
theorem iblk4_apply (t : Fin cfg0.N) (h : Fin 128) :
    (iblk m c 4 t : Vec Ideal S1x128 .f32) (ix2 0 h) = (args m c).W2 h := by
  refine Eq.trans ?_ (v2_apply m c h)
  unfold iblk
  rw [View.read_apply]
  show V m c main_v2 _ = V m c main_v2 _
  congr 1
  funext a
  apply Fin.ext
  match a with
  | ⟨0, _⟩ => show win0_4.index t 0 * 1 + 1 * 0 = 0; rw [(idx4 t).1]
  | ⟨1, _⟩ => show win0_4.index t 1 * 128 + 1 * h.val = h.val; rw [(idx4 t).2]; omega

/-- A row's score in its block is its score among all rows. -/
theorem tsc_iblk (t : Fin cfg0.N) (g : Fin 256) (r : Fin 2000) :
    tsc (iblk m c 0 t) (iblk m c 1 t) (iblk m c 2 t) (iblk m c 3 t) (iblk m c 4 t) g r
      = (args m c).t g (2000 * t.val + r.val) := by
  have hs : sc (iblk m c 0 t) (iblk m c 2 t) (iblk m c 3 t) (iblk m c 4 t) r = (args m c).s (2000 * t.val + r.val) := by
    rw [Args.s, dif_pos (row_lt t r), sc]
    congr 1
    · funext k; exact iblk0_apply m c t r k
    · funext k h; exact iblk2_apply m c t k h
    · funext h; exact iblk3_apply m c t h
    · funext h; exact iblk4_apply m c t h
  have hh : (iblk m c 1 t : Vec Ideal S1x2000x1 .i32) (ix3 0 r 0) = BitVec.ofNat 32 g.val
      ↔ (args m c).hit g (2000 * t.val + r.val) := by
    rw [iblk1_apply]
    exact ⟨fun h => ⟨row_lt t r, h⟩, fun ⟨_, h⟩ => h⟩
  rw [tsc, hs, Args.t]
  by_cases h : (args m c).hit g (2000 * t.val + r.val)
  · rw [if_pos h, if_pos (hh.2 h)]
  · rw [if_neg h, if_neg (fun h' => h (hh.1 h'))]

/-- A row's value in its block is its value among all rows. -/
theorem col_iblk (t : Fin cfg0.N) (k : Fin 128) (r : Fin 2000) :
    (iblk m c 0 t : Vec Ideal S2000x128 .f32) (ix2 r k) = (args m c).col k (2000 * t.val + r.val) := by
  rw [iblk0_apply, Args.col, dif_pos (row_lt t r)]

end Cert.KernelIdeal.Att

end
-- ==== Proof.Fold.lean ====
/- What the scratch rows and the result's block hold after each grid point: the maximum, the sum of exponentials and the
   weighted sums over the rows of the blocks so far, segment by segment; and the quotients after the last point. -/
module

public import proofs.«01_k».proof.Proof.Inputs

@[expose] public section

set_option maxRecDepth 16384

noncomputable section

namespace Cert.KernelIdeal.Att

open Cert.KernelIdeal Cert.KernelIdeal.Gen
open Idealize.ShloMosaic Idealize.ShloMosaic.TcCoe Idealize.SL.Sem
open Cert.Soft (Args M W E eps M_add W_add M_zero W_zero)

variable (m : (ℓ : Loc nD τ sig) → Buf (Elt Ideal) ℓ) (c : Dev nD)

section Step

variable (t : Fin cfg0.N) (K : ℕ) (hK : K = 2000 * t.val) (mo dn : Vec Ideal S1x256 .f32) (o : Vec Ideal S128x256 .f32)
  (hm : ∀ g, mo (ix2 0 g) = M ((args m c).t g) K)
  (hd : ∀ g, dn (ix2 0 g) = W (fun _ => 1) ((args m c).t g) K)
  (ho : ∀ k g, o (ix2 k g) = W ((args m c).col k) ((args m c).t g) K)

include hK hm

/-- One point carries the maxima over the rows before it to those over its rows too. -/
theorem m_point (g : Fin 256) :
    mStep (iblk m c 0 t) (iblk m c 1 t) (iblk m c 2 t) (iblk m c 3 t) (iblk m c 4 t) mo (ix2 0 g)
      = M ((args m c).t g) (K + 2000) := by
  rw [mStep_apply, hm, M_add, hK]
  simp only [tsc_iblk]

include hd

/-- … the sums of exponentials likewise. -/
theorem d_point (g : Fin 256) :
    dStep (iblk m c 0 t) (iblk m c 1 t) (iblk m c 2 t) (iblk m c 3 t) (iblk m c 4 t) mo dn (ix2 0 g)
      = W (fun _ => 1) ((args m c).t g) (K + 2000) := by
  rw [dStep_apply, m_point m c t K hK mo hm, hm, hd, W_add, hK]
  simp only [tsc_iblk]

omit hd
include ho

/-- … the weighted sums likewise. -/
theorem o_point (k : Fin 128) (g : Fin 256) :
    oStep (iblk m c 0 t) (iblk m c 1 t) (iblk m c 2 t) (iblk m c 3 t) (iblk m c 4 t) mo o (ix2 k g)
      = W ((args m c).col k) ((args m c).t g) (K + 2000) := by
  rw [oStep_apply, m_point m c t K hK mo hm, hm, ho, W_add, hK]
  simp only [tsc_iblk, col_iblk]

end Step

/-- What holds after point `n`, before the last. -/
structure Holds (n : ℕ) (hn : n < cfg0.N) : Prop where
  hm : ∀ g, (outsAt0 m c n hn).2.1 (ix2 0 g) = M ((args m c).t g) (2000 * n + 2000)
  hd : ∀ g, (outsAt0 m c n hn).2.2 (ix2 0 g) = W (fun _ => 1) ((args m c).t g) (2000 * n + 2000)
  ho : ∀ k g, (outsAt0 m c n hn).1 (ix2 k g) = W ((args m c).col k) ((args m c).t g) (2000 * n + 2000)

/-- Every point but the last leaves what `Holds` says. -/
theorem holds : ∀ (n : ℕ) (hn : n < cfg0.N), n < 49 → Holds m c n hn
  | 0, hn, _ => by
    have e := outsAt0_A m c ⟨0, hn⟩ rfl (show ¬0 % 50 = 49 by decide)
    rw [out_A, sout0_A, sout1_A] at e
    have hm : ∀ g : Fin 256, (k0_pay8 (F := Ideal)) (ix2 0 g) = M ((args m c).t g) 0 := fun g => pay8_apply g
    have hd : ∀ g : Fin 256, (k0_pay9 (F := Ideal)) (ix2 0 g) = W (fun _ => 1) ((args m c).t g) 0 := fun g => pay9_apply g
    have ho : ∀ k g, (k0_pay7 (F := Ideal)) (ix2 k g) = W ((args m c).col k) ((args m c).t g) 0 := fun k g => pay7_apply k g
    exact
      { hm := fun g => (congrArg (fun p => p.2.1 (ix2 0 g)) e).trans (m_point m c ⟨0, hn⟩ 0 rfl _ hm g)
        hd := fun g => (congrArg (fun p => p.2.2 (ix2 0 g)) e).trans (d_point m c ⟨0, hn⟩ 0 rfl _ _ hm hd g)
        ho := fun k g => (congrArg (fun p => p.1 (ix2 k g)) e).trans (o_point m c ⟨0, hn⟩ 0 rfl _ _ hm ho k g) }
  | n + 1, hn, h => by
    have ih := holds n (Nat.lt_of_succ_lt hn) (Nat.lt_of_succ_lt h)
    have e := outsAt0_B m c ⟨n + 1, hn⟩ (by dsimp only; omega) (by dsimp only; omega)
    rw [out_B, sout0_B, sout1_B] at e
    have hK : 2000 * n + 2000 = 2000 * (n + 1) := by omega
    exact
      { hm := fun g => (congrArg (fun p => p.2.1 (ix2 0 g)) e).trans
          ((m_point m c ⟨n + 1, hn⟩ _ hK _ ih.hm g).trans (by rw [hK]))
        hd := fun g => (congrArg (fun p => p.2.2 (ix2 0 g)) e).trans
          ((d_point m c ⟨n + 1, hn⟩ _ hK _ _ ih.hm ih.hd g).trans (by rw [hK]))
        ho := fun k g => (congrArg (fun p => p.1 (ix2 k g)) e).trans
          ((o_point m c ⟨n + 1, hn⟩ _ hK _ _ ih.hm ih.ho k g).trans (by rw [hK])) }

/-- The last point leaves the quotients over all the rows in the result's block. -/
theorem out_last (n : ℕ) (hn : n + 1 < cfg0.N) (h : n + 1 = 49) (k : Fin 128) (g : Fin 256) :
    (outsAt0 m c (n + 1) hn).1 (ix2 k g) = (args m c).quot g k := by
  have ih := holds m c n (Nat.lt_of_succ_lt hn) (by omega)
  have e := outsAt0_C m c ⟨n + 1, hn⟩ (by dsimp only; omega) (by dsimp only; omega)
  rw [out_C] at e
  have hK : 2000 * n + 2000 = 2000 * (n + 1) := by omega
  have hL : 2000 * n + 2000 + 2000 = 100000 := by omega
  have ho := o_point m c ⟨n + 1, hn⟩ _ hK _ _ ih.hm ih.ho k g
  have hd := d_point m c ⟨n + 1, hn⟩ _ hK _ _ ih.hm ih.hd g
  rw [hL] at ho hd
  refine (congrArg (fun p => p.1 (ix2 k g)) e).trans ((pay6_apply _ _ k g).trans ?_)
  rw [Args.quot, ← ho, ← hd]
  rfl

end Cert.KernelIdeal.Att

end
-- ==== Proof.Final.lean ====
/- What the kernel's result holds after the run: at segment `g` and column `k`, the accumulated numerator over the
   accumulated denominator. The kernel's own array is written once, after the last point; the host then transposes it. -/
module

public import proofs.«01_k».proof.Proof.Fold

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (Dat)
open Cert.Soft (Args)

variable (m : (ℓ : Loc nD τ sig) → Buf (Elt Ideal) ℓ) (ρ : Dev nD → PrngReg) (c : Dev nD)

/-- The kernel's own array: columns by segments. -/
def resultT : Buf (Elt Ideal) ((c : Thread nD τ).loc main_v3) :=
  (fun i => (args m c).quot (i 1) (i 0) : Vec Ideal S128x256 .f32)

/-- The result: segments by columns. -/
def result : Buf (Elt Ideal) ((c : Thread nD τ).loc main_v4) :=
  (fun i => (args m c).quot (i 0) (i 1) : Vec Ideal S256x128 .f32)

/-- Every point's block of the result is the whole array. -/
theorem idx5 : ∀ t : Fin cfg0.N, win0_5.index t (0 : Fin 2) = 0 ∧ win0_5.index t (1 : Fin 2) = 0 :=
  (by decide +kernel : ∀ t : Fin grid0.N, _)

/-- The one write-back writes the quotients. -/
theorem flushed_eq (t : Fin cfg0.N) (hf : (cfg0.win 5).flush t = true) :
    (dats m 0 c).flushed 5 t = ((cfg0.win 5).blk t).view.read (Elt Ideal) (resultT m c) := by
  have h49 : t.val % 50 = 49 := (flush0_5 t).mp hf
  have hz' : (fun a => win0_5.index t a * main_v3.ty.shape.size a) = fun _ => 0 := funext fun a => by
    match a with
    | ⟨0, _⟩ => show win0_5.index t (0 : Fin 2) * _ = 0; rw [(idx5 t).1, Nat.zero_mul]
    | ⟨1, _⟩ => show win0_5.index t (1 : Fin 2) * _ = 0; rw [(idx5 t).2, Nat.zero_mul]
  refine Eq.trans ?_ (Memref.read_access_unit_zero (Elt Ideal) main_v3 hz' (fun a => by rw [congrFun hz' a]; simp) (resultT m c)).symm
  show (cfg0.win 5).cut (grid0.coords t) ((dats m 0 c).after 5 t) = _
  rw [after0_5]
  obtain ⟨n, hn⟩ := t
  have hN : cfg0.N = 50 := N_0
  cases n with
  | zero => exact absurd h49 (show ¬0 % 50 = 49 by decide)
  | succ n =>
    have h : n + 1 = 49 := by dsimp only at h49; omega
    funext j
    show (outsAt0 m c (n + 1) hn).1 j = (args m c).quot (j 1) (j 0)
    idx_vars j
    exact out_last m c n hn h _ _

/-- The point that writes back. -/
def lastPt : Fin cfg0.N := ⟨49, by rw [show cfg0.N = 50 from N_0]; decide⟩

/-- So the kernel's own array ends at the quotients: the last point's block is the whole array. -/
theorem final : (dats m 0 c).arrAt 5 cfg0.N = resultT m c :=
  (dats m 0 c).arrAt_eq_of_cover 5 (resultT m c) (flushed_eq m c) fun i =>
    ⟨lastPt, (flush0_5 lastPt).mpr rfl, by
      show i ∈ ((View.whole main_v3).slice (win0_5.rect lastPt)).set
      rw [View.set_slice_whole, Rect.mem_set_unit]
      intro a
      have h0 : (i 0 : Nat) < 128 := (i 0).isLt
      have h1 : (i 1 : Nat) < 256 := (i 1).isLt
      match a with
      | ⟨0, _⟩ =>
        show win0_5.index lastPt (0 : Fin 2) * 128 ≤ (i 0 : Nat) ∧ (i 0 : Nat) < win0_5.index lastPt (0 : Fin 2) * 128 + 128
        rw [(idx5 lastPt).1]; omega
      | ⟨1, _⟩ =>
        show win0_5.index lastPt (1 : Fin 2) * 256 ≤ (i 1 : Nat) ∧ (i 1 : Nat) < win0_5.index lastPt (1 : Fin 2) * 256 + 256
        rw [(idx5 lastPt).2]; omega⟩

/-- The host's transpose of it is the result. -/
theorem tail_eq : Pipeline.afterTail₀ cfgs (dats m) 0 (V0 m) [hostOps1] c main_v4 = result m c := by
  unfold Pipeline.afterTail₀
  show StableHlo.after hostOps1 _ _ = _
  have hv : Pipeline.withArrays (cfgs 0).spec c (V0 m c) (fun w => (dats m 0 c).arrAt w (cfgs 0).N)
      (Proc.devRef .tc main_v3) = resultT m c :=
    (Pipeline.withArrays_arr spec0 (by decide) c (V0 m c) (fun w => (dats m 0 c).arrAt w cfg0.N) 5).trans (final m c)
  generalize Pipeline.withArrays (cfgs 0).spec c (V0 m c) (fun w => (dats m 0 c).arrAt w (cfgs 0).N) = σ at hv ⊢
  have e : StableHlo.after (hostOps1 (F := Ideal)) σ (Proc.devRef .tc main_v4)
      = transpose S256x128 [1, 0] (σ (Proc.devRef .tc main_v3)) transposes_S128x256_S256x128_1_0 := by
    after_results_simp <;> rfl
  refine e.trans ?_
  rw [hv]
  funext i
  show (transpose S256x128 [1, 0] (resultT m c : Vec Ideal S128x256 .f32) transposes_S128x256_S256x128_1_0) i = (args m c).quot (i 0) (i 1)
  idx_vars i
  pointwise [resultT]

/-- The run: the result at the quotients, the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Att

end
-- ==== Proof.Scatter.lean ====
/- Adding the rows of a matrix into the rows of another that a column of numbers names: each entry of the outcome is its
   value before plus the entries of the rows sent to it. -/
module

public import Idealize.ShloMosaic.PureOps.Ideal
public import Idealize.ShloMosaic.Lib.Pointwise
public import Idealize.ShloMosaic.Lib.Pointwise.IndexBridge
public import Idealize.ShloMosaic.Lib.Routing.OpsPair

@[expose] public section

noncomputable section

namespace Cert.Soft

open Idealize.ShloMosaic
open Idealize.ShloMosaic.Routing (shape2)

/-- One is not in the list of zero alone. -/
theorem one_not_mem : (1 : Fin 2) ∉ [(0 : Fin 2)] := by decide

section Lands

variable {R C N : ℕ} (d : ScatterDims (shape2 R C) (shape2 N 1) (shape2 N C)) (hu : d.updateWindowDims = [1])
  (hi : d.insertedWindowDims = [0]) (hs : d.scatterDimsToOperandDims = [0]) (hv : d.indexVectorDim = 1)
  (idx : IVec (shape2 N 1) 32) (n : Fin N) (y : Fin C)

include hi in
/-- An entry adds nothing to the row it is sent to. -/
theorem window_zero : d.window (ix2 n y) 0 = 0 := by
  unfold ScatterDims.window
  rw [dif_neg fun h => (of_decide_eq_true (List.mem_filter.1 h).2) (by rw [hi]; exact List.mem_singleton.2 rfl)]

include hu hi in
/-- An entry keeps its column. -/
theorem window_one : d.window (ix2 n y) 1 = y.val := by
  have hm : (1 : Fin 2) ∈ d.sKept := List.mem_filter.2 ⟨List.mem_finRange _, by rw [hi]; exact decide_eq_true one_not_mem⟩
  have e : ∀ X : Fin 2, X ∈ d.updateWindowDims → (ix2 n y X).val = y.val := fun X h => by
    rw [hu] at h
    obtain rfl := List.mem_singleton.1 h
    rfl
  unfold ScatterDims.window
  rw [dif_pos hm]
  exact e _ (List.getElem_mem _)

include hs in
/-- The numbers say nothing of the column. -/
theorem start_one : d.start (ix2 n y) idx 1 = 0 := by
  unfold ScatterDims.start
  rw [dif_neg (by rw [hs]; exact one_not_mem)]

include hu hs hv in
/-- The row an entry is sent to is its row's number, read signed. -/
theorem start_zero : d.start (ix2 n y) idx 0 = (idx (ix2 n 0)).toInt := by
  have hm : (0 : Fin 2) ∈ d.scatterDimsToOperandDims := by rw [hs]; exact List.mem_singleton.2 rfl
  have e : ∀ X : Fin 2, X ∈ d.uScatter → (ix2 n y X).val = n.val := fun X h => by
    have h' : X ∉ d.updateWindowDims := of_decide_eq_true (List.mem_filter.1 h).2
    rw [hu] at h'
    have h1 : X ≠ 1 := fun q => h' (List.mem_singleton.2 q)
    obtain rfl : X = 0 := by
      match X, h1 with
      | ⟨0, _⟩, _ => rfl
      | ⟨1, _⟩, h => exact absurd rfl h
    rfl
  have hsi : d.siIdx (ix2 n y) ⟨d.scatterDimsToOperandDims.idxOf 0, List.idxOf_lt_length_iff.2 hm⟩ = ix2 n (0 : Fin 1) := by
    funext b
    apply Fin.ext
    match b with
    | ⟨0, _⟩ =>
      unfold ScatterDims.siIdx
      rw [dif_neg (by rw [hv]; exact Nat.zero_ne_one)]
      unfold ScatterDims.siCoord
      simp only [Fin.val_cast]
      exact e _ (List.getElem_mem _)
    | ⟨1, _⟩ =>
      unfold ScatterDims.siIdx
      rw [dif_pos (by rw [hv])]
      show List.idxOf (0 : Fin 2) d.scatterDimsToOperandDims = 0
      rw [hs]
      rfl
  unfold ScatterDims.start
  rw [dif_pos hm, hsi]

include hu hi hs hv in
/-- Entry `(n, y)` is sent to `(g, c)` exactly when row `n`'s number is `g` and `y` is `c`. -/
theorem lands (g : Fin R) (c : Fin C) :
    d.resultIdx? (ix2 n y) idx = some (ix2 g c) ↔ (idx (ix2 n 0)).toInt = (g.val : ℤ) ∧ y = c := by
  rw [ix2_eq_valueIdx g c, Routing.resultIdx?_ix2, window_zero d hi, window_one d hu hi, start_one d hs,
    start_zero d hu hs hv, Fin.ext_iff]
  omega

include hu hi hs hv in
/-- The outcome at `(g, c)`: what was there plus column `c` of the rows whose number is `g`. -/
theorem scatterAdd_rows (x : (shape2 R C).Idx → EReal) (upd : (shape2 N C).Idx → EReal) (g : Fin R) (c : Fin C) :
    Ideal.hostScatterAdd d x idx upd (ix2 g c)
      = x (ix2 g c) + ∑ n : Fin N, if (idx (ix2 n 0)).toInt = (g.val : ℤ) then upd (ix2 n c) else 0 := by
  unfold Ideal.hostScatterAdd
  rw [Finset.sum_filter, sum_idx2]
  simp only [lands d hu hi hs hv idx]
  have hn : ∀ n : Fin N, (∑ y : Fin C, if (idx (ix2 n 0)).toInt = (g.val : ℤ) ∧ y = c then upd (ix2 n y) else 0)
      = if (idx (ix2 n 0)).toInt = (g.val : ℤ) then upd (ix2 n c) else 0 := fun n => by
    by_cases h : (idx (ix2 n 0)).toInt = (g.val : ℤ)
    · simp only [h, true_and, if_true]
      rw [Finset.sum_ite_eq' Finset.univ c fun y => upd (ix2 n y), if_pos (Finset.mem_univ c)]
    · simp only [h, false_and, if_false, Finset.sum_const_zero]
  simp only [hn]

end Lands

/-- A word read signed is a number below 256 exactly when it is that number's word. -/
theorem toInt_eq (b : BitVec 32) (g : Fin 256) : b.toInt = (g.val : ℤ) ↔ b = BitVec.ofNat 32 g.val := by
  have hg := g.isLt
  constructor
  · intro h
    apply BitVec.eq_of_toInt_eq
    rw [h, StableHlo.Predicate.toInt_ofNat_small _ (by omega)]
  · rintro rfl
    rw [StableHlo.Predicate.toInt_ofNat_small _ (by omega)]

end Cert.Soft

end
-- ==== Proof.Ref.lean ====
/- What the reference computes, read at an index over the extended reals: every row's score, every segment's largest score
   (zero where that is infinite), every row's exponential, every segment's sum of its rows' exponentials, and the weighted
   sum of a segment's rows. -/
module

public import proofs.«01_k».proof.Proof.Scatter
public import proofs.«01_k».proof.Proof.Spec
public import proofs.«01_k».proof.Proof.Gen.ReferenceIdeal.Run
public import Idealize.ShloMosaic.Lib.Pointwise
public import Idealize.ShloMosaic.Lib.Pointwise.IndexBridge
public import Idealize.ShloMosaic.Lib.Routing.Ops
public import Idealize.ShloMosaic.Lib.Routing.OpsPair

@[expose] public section

set_option maxRecDepth 16384

noncomputable section

namespace Cert.ReferenceIdeal.Att

open Cert.ReferenceIdeal Cert.ReferenceIdeal.Gen
open Idealize.ShloMosaic Idealize.ShloMosaic.TcCoe Idealize.SL.Sem
open Cert.Soft (Args score eps)

variable (x : Vec Ideal S100000x128 .f32) (W1 : Vec Ideal S128x128 .f32) (b1 : Vec Ideal S128 .f32)
  (W2 : Vec Ideal S128x1 .f32) (id' : IVec S100000 32)

/-- The arguments, as functions of their indices. -/
def argsOf : Args where
  x n k := x (ix2 n k)
  W1 k h := W1 (ix2 k h)
  b1 h := b1 (ix1 h)
  W2 h := W2 (ix2 h 0)
  id n := id' (ix1 n)

/-- The scores, one a row. -/
def scores : Vec Ideal S100000x1 .f32 :=
  Host.dotGeneral (F := Ideal) (φ₁ := .f32) (φ₂ := .f32) dot_S100000x128_S128x1_S100000x1_1_0_0_1_n_n none
    (Host.tanh (F := Ideal) (φ := .f32) (addf
      (Host.dotGeneral (F := Ideal) (φ₁ := .f32) (φ₂ := .f32) dot_S100000x128_S128x128_S100000x128_1_0_0_1_n_n none x W1)
      (broadcastInDim S100000x128 ![0, 1] bcast_S1x128_S100000x128_0_1 (broadcastInDim S1x128 ![1] bcast_S128_S1x128_1 b1)))) W2

/-- The segments' maxima. -/
def maxima (s : Vec Ideal S100000x1 .f32) : Vec Ideal S256x1 .f32 :=
  broadcastInDim S256x1 ![0] bcast_S256_S256x1_0 (Host.reduce (FloatOps.maximumf (F := Ideal) (φ := .f32))
    (select (cmpi .eq
        (broadcastInDim S100000x256 ![0, 1] bcast_S100000x1_S100000x256_0_1 (broadcastInDim S100000x1 ![0] bcast_S100000_S100000x1_0 id'))
        (broadcastInDim S100000x256 ![0, 1] bcast_S1x256_S100000x256_0_1 (broadcastInDim S1x256 ![1] bcast_S256_S1x256_1 (iotaInDim S256 32 0))))
      (broadcastInDim S100000x256 ![0, 1] bcast_S100000x1_S100000x256_0_1 s)
      (broadcastInDim S100000x256 ![] bcast_S_S100000x256 (id (constant (F := Ideal) S_ .f32 0xFF800000#32))))
    (constant (F := Ideal) S_ .f32 0xFF800000#32) reducesTo_S100000x256_S256_d0 h_S_)

/-- The maxima, with zero for an infinite one. -/
def finite (v : Vec Ideal S256x1 .f32) : Vec Ideal S256x1 .f32 :=
  select (cmpf (F := Ideal) .olt (Host.absf v) (broadcastInDim S256x1 ![] bcast_S_S256x1 (constant (F := Ideal) S_ .f32 0x7F800000#32))) v
    (broadcastInDim S256x1 ![] bcast_S_S256x1 (id (constant (F := Ideal) S_ .f32 0x00000000#32)))

/-- The segment numbers as row numbers of a table of 256 rows, a negative one counted from the end. -/
def rows : IVec S100000x1 32 :=
  broadcastInDim S100000x1 ![0] bcast_S100000_S100000x1_0
    (select (cmpi .slt id' (broadcastInDim S100000 ![] bcast_S_S100000 (constantI S_ 32 0#32)))
      (addi id' (broadcastInDim S100000 ![] bcast_S_S100000 (constantI S_ 32 256#32))) id')

/-- The exponentials, one a row. -/
def expos (s : Vec Ideal S100000x1 .f32) : Vec Ideal S100000x1 .f32 :=
  Host.exp (F := Ideal) (φ := .f32) (subf s (Host.gather gather_S256x1_S100000x1_S100000x1_1_0_n_n_0_1_11 (finite (maxima id' s)) (rows id')))

/-- The segment numbers as a column. -/
def column : IVec S100000x1 32 := broadcastInDim S100000x1 ![0] bcast_S100000_S100000x1_0 id'

/-- The segments' sums of exponentials. -/
def sums (e : Vec Ideal S100000x1 .f32) : Vec Ideal S256x1 .f32 :=
  Host.scatterAdd (F := Ideal) (φ := .f32) scatter_S256x1_S100000x1_S100000x1_1_0_0_1
    (broadcastInDim S256x1 ![] bcast_S_S256x1 (constant (F := Ideal) S_ .f32 0x00000000#32))
    (column id') e

/-- The weights, one a row. -/
def weights (e : Vec Ideal S100000x1 .f32) : Vec Ideal S100000x1 .f32 :=
  Host.divf (F := Ideal) (φ := .f32) e (addf (Host.gather gather_S256x1_S100000x1_S100000x1_1_0_n_n_0_1_11 (sums id' e) (rows id'))
    (broadcastInDim S100000x1 ![] bcast_S_S100000x1 (constant (F := Ideal) S_ .f32 0x24E69595#32)))

/-- The weighted sums, from the weights. -/
def weighted (w : Vec Ideal S100000x1 .f32) : Vec Ideal S256x128 .f32 :=
  Host.scatterAdd (F := Ideal) (φ := .f32) scatter_S256x128_S100000x1_S100000x128_1_0_0_1
    (broadcastInDim S256x128 ![] bcast_S_S256x128 (constant (F := Ideal) S_ .f32 0x00000000#32))
    (column id')
    (mulf (F := Ideal) (φ := .f32) x (broadcastInDim S100000x128 ![0, 1] bcast_S100000x1_S100000x128_0_1
      (broadcastInDim S100000x1 ![0] bcast_S100000_S100000x1_0 (shapeCast S100000 w shapeCasts_S100000x1_S100000))))

/-- The reference's result is these, composed. -/
theorem res_eq (m : (ℓ : Loc nD τ sig) → Buf (Elt Ideal) ℓ) (c : Dev nD) :
    Cert.ReferenceIdeal.Value.res_out0 m c
      = weighted (m ((c.tc : Thread nD τ).loc main_arg0)) (m ((c.tc : Thread nD τ).loc main_arg4))
          (weights (m ((c.tc : Thread nD τ).loc main_arg4)) (expos (m ((c.tc : Thread nD τ).loc main_arg4))
            (scores (m ((c.tc : Thread nD τ).loc main_arg0)) (m ((c.tc : Thread nD τ).loc main_arg1))
              (m ((c.tc : Thread nD τ).loc main_arg2)) (m ((c.tc : Thread nD τ).loc main_arg3))))) := by
  show Cert.ReferenceIdeal.Value.res_main_v47 m c = _
  unfold Cert.ReferenceIdeal.Value.res_main_v47
  rfl

/-- A row's score is the sum over the two layers. -/
theorem scores_apply (n : Fin 100000) :
    scores x W1 b1 W2 (ix2 n 0) = (argsOf x W1 b1 W2 id').s n.val := by
  rw [Args.s, dif_pos n.isLt]
  pointwise [scores]
  rfl

/-- A maximum's absolute value is below infinity unless the maximum is infinite. -/
theorem finite_apply (v : Vec Ideal S256x1 .f32) (g : Fin 256) : finite v (ix2 g 0) = Cert.Soft.fin (v (ix2 g 0)) := by
  pointwise [finite]
  generalize (v (ix2 g 0) : EReal) = M
  show (if max M (-M) < Ideal.ofBits FTy.f32 0x7F800000#32 then M else Ideal.ofBits FTy.f32 0x00000000#32) = Cert.Soft.fin M
  rw [Cert.Soft.ofBits_pinf, show Ideal.ofBits FTy.f32 0x00000000#32 = 0 by simp [Ideal.ofBits, Ideal.ieee]]
  unfold Cert.Soft.fin
  induction M using EReal.rec with
  | bot => simp
  | top => simp
  | coe r =>
    have h : max (r : EReal) (-(r : EReal)) < ⊤ := max_lt (EReal.coe_lt_top r) (by rw [← EReal.coe_neg]; exact EReal.coe_lt_top _)
    rw [if_pos h, if_neg (by simp)]

/-- A row in segment `g` reads row `g` of a table. -/
theorem rows_apply (n : Fin 100000) (g : Fin 256) (h : id' (ix1 n) = BitVec.ofNat 32 g.val) :
    rows id' (ix2 n 0) = BitVec.ofNat 32 g.val := by
  have hg := g.isLt
  pointwise [rows]
  rw [Routing.wrap_of_lt _ _ (by rw [h, BitVec.toNat_ofNat]; omega), h]

/-- A segment's maximum: over the scores of its rows, minus infinity for every other row. -/
theorem maxima_apply (s : Vec Ideal S100000x1 .f32) (g : Fin 256) : maxima id' s (ix2 g 0)
    = (Finset.univ : Finset (Fin 100000)).fold max ⊥ fun n =>
        if id' (ix1 n) = BitVec.ofNat 32 g.val then s (ix2 n 0) else ⊥ := by
  have hb : (id (constant (F := Ideal) S_ FTy.f32 0xFF800000#32) ix0 : EReal) = ⊥ := Cert.Soft.ofBits_ninf
  pointwise [maxima]
  rw [Cert.Soft.ofBits_ninf]
  have hn : ∀ n : Fin 100000, Scalar.select (IntOp.cmpi CmpIPredicate.eq (id' (ix1 n)) (BitVec.ofNat 32 g.val)) (s (ix2 n 0))
      (id (constant (F := Ideal) S_ FTy.f32 0xFF800000#32) ix0) = if id' (ix1 n) = BitVec.ofNat 32 g.val then s (ix2 n 0) else (⊥ : EReal) := fun n => by
    rw [WordCmp.cmpi_eq_eq, WordCmp.select_decide]
    by_cases hn : id' (ix1 n) = BitVec.ofNat 32 g.val
    · rw [if_pos hn, if_pos hn]
    · rw [if_neg hn, if_neg hn]; exact hb
  simp only [hn]

/-- A row in segment `g` takes the table's entry at `g`. -/
theorem gather_apply (v : Vec Ideal S256x1 .f32) (n : Fin 100000) (g : Fin 256) (h : id' (ix1 n) = BitVec.ofNat 32 g.val) :
    Host.gather gather_S256x1_S100000x1_S100000x1_1_0_n_n_0_1_11 v (rows id') (ix2 n 0) = v (ix2 g 0) := by
  have hr := rows_apply id' n g h
  rw [ix2_eq_valueIdx] at hr
  rw [ix2_eq_valueIdx n, ix2_eq_valueIdx g]
  exact Routing.gather_row gather_S256x1_S100000x1_S100000x1_1_0_n_n_0_1_11 rfl rfl rfl rfl rfl v (rows id') n 0 g hr (by decide)

/-- The exponential of a row in segment `g`. -/
theorem expos_apply (s : Vec Ideal S100000x1 .f32) (n : Fin 100000) (g : Fin 256) (h : id' (ix1 n) = BitVec.ofNat 32 g.val) :
    expos id' s (ix2 n 0) = Ideal.exp (s (ix2 n 0) - Cert.Soft.fin (maxima id' s (ix2 g 0))) := by
  pointwise [expos]
  rw [gather_apply id' _ n g h, finite_apply]

/-- The weight of a row in segment `g`. -/
theorem weights_apply (e : Vec Ideal S100000x1 .f32) (n : Fin 100000) (g : Fin 256) (h : id' (ix1 n) = BitVec.ofNat 32 g.val) :
    weights id' e (ix2 n 0) = Ideal.div (e (ix2 n 0)) (sums id' e (ix2 g 0) + eps) := by
  pointwise [weights]
  rw [gather_apply id' _ n g h]
  rfl

/-- The column of segment numbers, read at an index. -/
theorem column_apply (n : Fin 100000) : column id' (ix2 n 0) = id' (ix1 n) := by
  pointwise [column]

/-- A segment's sum of exponentials: over its rows. -/
theorem sums_apply (e : Vec Ideal S100000x1 .f32) (g : Fin 256) : sums id' e (ix2 g 0)
    = ∑ n : Fin 100000, if id' (ix1 n) = BitVec.ofNat 32 g.val then e (ix2 n 0) else (0 : EReal) := by
  refine (Cert.Soft.scatterAdd_rows scatter_S256x1_S100000x1_S100000x1_1_0_0_1 rfl rfl rfl rfl (column id') _ _ g 0).trans ?_
  have h0 : (broadcastInDim S256x1 ![] bcast_S_S256x1 (constant (F := Ideal) S_ .f32 0x00000000#32) : Vec Ideal S256x1 .f32) (ix2 g 0) = (0 : EReal) := by
    show Ideal.ofBits FTy.f32 0x00000000#32 = 0
    simp [Ideal.ofBits, Ideal.ieee]
  rw [h0, zero_add]
  simp only [column_apply, Cert.Soft.toInt_eq]

/-- A segment's weighted sum in column `c`: over its rows. -/
theorem weighted_apply (w : Vec Ideal S100000x1 .f32) (g : Fin 256) (c : Fin 128) : weighted x id' w (ix2 g c)
    = ∑ n : Fin 100000, if id' (ix1 n) = BitVec.ofNat 32 g.val then (x (ix2 n c) * w (ix2 n 0) : EReal) else 0 := by
  refine (Cert.Soft.scatterAdd_rows scatter_S256x128_S100000x1_S100000x128_1_0_0_1 rfl rfl rfl rfl (column id') _ _ g c).trans ?_
  have h0 : (broadcastInDim S256x128 ![] bcast_S_S256x128 (constant (F := Ideal) S_ .f32 0x00000000#32) : Vec Ideal S256x128 .f32) (ix2 g c) = (0 : EReal) := by
    show Ideal.ofBits FTy.f32 0x00000000#32 = 0
    simp [Ideal.ofBits, Ideal.ieee]
  have hm : ∀ n : Fin 100000, (mulf (F := Ideal) (φ := .f32) x (broadcastInDim S100000x128 ![0, 1] bcast_S100000x1_S100000x128_0_1
      (broadcastInDim S100000x1 ![0] bcast_S100000_S100000x1_0 (shapeCast S100000 w shapeCasts_S100000x1_S100000))) : Vec Ideal S100000x128 .f32) (ix2 n c)
      = (x (ix2 n c) * w (ix2 n 0) : EReal) := fun n => by
    pointwise []
  rw [h0, zero_add]
  simp only [column_apply, Cert.Soft.toInt_eq, hm]

end Cert.ReferenceIdeal.Att

end
-- ==== Proof.Equation.lean ====
/- The reference's result, at every segment and column, is the accumulated numerator over the accumulated denominator. -/
module

public import proofs.«01_k».proof.Proof.Ref

@[expose] public section

noncomputable section

namespace Cert.ReferenceIdeal.Att

open Cert.ReferenceIdeal Cert.ReferenceIdeal.Gen
open Idealize.ShloMosaic Idealize.ShloMosaic.TcCoe Idealize.SL.Sem
open Cert.Soft (Args eps M W)

variable (x : Vec Ideal S100000x128 .f32) (W1 : Vec Ideal S128x128 .f32) (b1 : Vec Ideal S128 .f32)
  (W2 : Vec Ideal S128x1 .f32) (id' : IVec S100000 32)

/-- A row with a number below 100000 is in segment `g` exactly when its word is `g`'s. -/
theorem hit_iff (g : Fin 256) (n : Fin 100000) : (argsOf x W1 b1 W2 id').hit g n.val ↔ id' (ix1 n) = BitVec.ofNat 32 g.val :=
  ⟨fun h => h.2, fun h => ⟨n.isLt, h⟩⟩

/-- A sum over a segment's rows, numbered by natural numbers. -/
theorem sum_hit (g : Fin 256) (f : ℕ → EReal) (f' : Fin 100000 → EReal)
    (hf : ∀ n : Fin 100000, id' (ix1 n) = BitVec.ofNat 32 g.val → f' n = f n.val) :
    (∑ n : Fin 100000, if id' (ix1 n) = BitVec.ofNat 32 g.val then f' n else 0)
      = ∑ n ∈ Finset.range 100000, if (argsOf x W1 b1 W2 id').hit g n then f n else 0 := by
  rw [Finset.sum_range]
  refine Finset.sum_congr rfl fun n _ => ?_
  by_cases h : id' (ix1 n) = BitVec.ofNat 32 g.val
  · rw [if_pos h, if_pos ((hit_iff x W1 b1 W2 id' g n).2 h), hf n h]
  · rw [if_neg h, if_neg fun q => h ((hit_iff x W1 b1 W2 id' g n).1 q)]

/-- A segment's maximum. -/
theorem maxima_eq (g : Fin 256) : maxima id' (scores x W1 b1 W2) (ix2 g 0) = M ((argsOf x W1 b1 W2 id').t g) 100000 := by
  have e := Cert.Soft.M_add ((argsOf x W1 b1 W2 id').t g) 0 100000
  rw [Cert.Soft.M_zero, Nat.zero_add, max_bot_left] at e
  rw [e, maxima_apply]
  have hn : ∀ n : Fin 100000, (if id' (ix1 n) = BitVec.ofNat 32 g.val then scores x W1 b1 W2 (ix2 n 0) else (⊥ : EReal))
      = (argsOf x W1 b1 W2 id').t g (0 + n.val) := fun n => by
    rw [Nat.zero_add, Args.t]
    by_cases h : id' (ix1 n) = BitVec.ofNat 32 g.val
    · rw [if_pos h, if_pos ((hit_iff x W1 b1 W2 id' g n).2 h)]
      exact scores_apply x W1 b1 W2 id' n
    · rw [if_neg h, if_neg fun q => h ((hit_iff x W1 b1 W2 id' g n).1 q)]
  simp only [hn]

/-- The exponential of a row in segment `g`, at the segment's maximum. -/
theorem expos_eq (n : Fin 100000) (g : Fin 256) (h : id' (ix1 n) = BitVec.ofNat 32 g.val) :
    expos id' (scores x W1 b1 W2) (ix2 n 0) = Ideal.exp ((argsOf x W1 b1 W2 id').s n.val - Cert.Soft.fin (M ((argsOf x W1 b1 W2 id').t g) 100000)) := by
  rw [expos_apply id' _ n g h, maxima_eq, scores_apply x W1 b1 W2 id']

/-- A segment's sum of exponentials. -/
theorem sums_eq (g : Fin 256) : sums id' (expos id' (scores x W1 b1 W2)) (ix2 g 0)
    = ∑ n ∈ Finset.range 100000, if (argsOf x W1 b1 W2 id').hit g n then Ideal.exp ((argsOf x W1 b1 W2 id').s n - Cert.Soft.fin (M ((argsOf x W1 b1 W2 id').t g) 100000)) else 0 := by
  rw [sums_apply]
  exact sum_hit x W1 b1 W2 id' g _ _ fun n h => expos_eq x W1 b1 W2 id' n g h

/-- The weighted sum at segment `g` and column `c` is the quotient. -/
theorem weighted_eq (g : Fin 256) (c : Fin 128) :
    weighted x id' (weights id' (expos id' (scores x W1 b1 W2))) (ix2 g c) = (argsOf x W1 b1 W2 id').quot g c := by
  rw [Args.quot, Cert.Soft.quotient ((argsOf x W1 b1 W2 id').col c) (argsOf x W1 b1 W2 id').s ((argsOf x W1 b1 W2 id').hit g) 100000 Cert.Soft.eps_pos ((argsOf x W1 b1 W2 id').t g) fun _ => rfl,
    weighted_apply]
  refine sum_hit x W1 b1 W2 id' g _ _ fun n h => ?_
  rw [weights_apply id' _ n g h, sums_eq, expos_eq x W1 b1 W2 id' n g h]
  have hc : (argsOf x W1 b1 W2 id').col c n.val = x (ix2 n c) := by
    rw [Args.col, dif_pos n.isLt]
    rfl
  rw [hc]

end Cert.ReferenceIdeal.Att

end
-- ==== Proof.lean ====
/- The four programs' claims together: the kernel, its idealization and the idealized reference run to the end with their
   arguments unchanged and every semaphore counter at zero; the idealization is the kernel's own text; and over the
   extended reals the kernel's result is the reference's, on any arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Equation
public import Idealize.ShloMosaic.Adequacy
public import Idealize.ShloMosaic.Init

@[expose] public section

noncomputable section

namespace Cert.Proof

open Idealize.ShloMosaic Idealize.SL.Sem

/-- The reference runs to the end with its arguments unchanged; it has no semaphore. -/
theorem quiescent_reference : Cert.quiescent_ReferenceIdeal (hReferenceIdeal := Cert.ReferenceIdeal.Gen.facts) := fun m g _ =>
  (θ_run Cert.ReferenceIdeal.defs _ _).mono (fun _ h => ⟨fun c => (h c).2, funext fun s => by
    obtain ⟨_, sm⟩ := s
    exact nomatch sm⟩) (Cert.ReferenceIdeal.Value.run m g)

/-- From memories that agree on the arguments, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.res_out0 m' c = Cert.KernelIdeal.Att.result m c := by
  refine (Cert.ReferenceIdeal.Att.res_eq m' c).trans ?_
  rw [h0, h1, h2, h3, h4]
  funext i
  obtain ⟨g, k, rfl⟩ : ∃ (g : Fin 256) (k : Fin 128), i = ix2 g k := ⟨i 0, i 1, eq_ix2 i⟩
  exact Cert.ReferenceIdeal.Att.weighted_eq _ _ _ _ _ g k

/-- The two programs' results are equal over the extended reals. -/
theorem algebraic : Cert.algebraic_KernelIdeal_ReferenceIdeal (hKernelIdeal := Cert.KernelIdeal.Gen.facts)
    (hReferenceIdeal := Cert.ReferenceIdeal.Gen.facts) := fun m g m' g' _ h =>
  ⟨fun c => Cert.KernelIdeal.Att.result m c, Cert.KernelIdeal.Att.run m g,
    (θ_run Cert.ReferenceIdeal.defs _ _).mono (fun _ hr c => ⟨(hr c).1.trans
      (result_eq m m' c (h c).1 (h c).2.1 (h c).2.2.1 (h c).2.2.2.1 (h c).2.2.2.2), (hr c).2⟩)
      (Cert.ReferenceIdeal.Value.run m' g')⟩

/-- All the claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, quiescent_reference, trivial, algebraic⟩

end Cert.Proof

end
